-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67_2)) (v1 : (c : Dev Cert.KernelIdeal.nD) → Buf (Elt Ideal) ((c.tc : Thread Cert.KernelIdeal.nD Cert.KernelIdeal.τ).loc Cert.KernelIdeal.main_v67_3)) (v2 : (c : Dev Cert.KernelIdeal.nD) → Buf (Elt Ideal) ((c.tc : Thread Cert.KernelIdeal.nD Cert.KernelIdeal.τ).loc Cert.KernelIdeal.main_v67_4)) (v3 : (c : Dev Cert.KernelIdeal.nD) → Buf (Elt Ideal) ((c.tc : Thread Cert.KernelIdeal.nD Cert.KernelIdeal.τ).loc Cert.KernelIdeal.main_v67_5)) (v4 : (c : Dev Cert.KernelIdeal.nD) → Buf (Elt Ideal) ((c.tc : Thread Cert.KernelIdeal.nD Cert.KernelIdeal.τ).loc Cert.KernelIdeal.main_v67_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_2) = v0 c
          ∧ r.2.mem ((c.tc : Thread Cert.KernelIdeal.nD Cert.KernelIdeal.τ).loc Cert.KernelIdeal.main_v67_3) = v1 c
          ∧ r.2.mem ((c.tc : Thread Cert.KernelIdeal.nD Cert.KernelIdeal.τ).loc Cert.KernelIdeal.main_v67_4) = v2 c
          ∧ r.2.mem ((c.tc : Thread Cert.KernelIdeal.nD Cert.KernelIdeal.τ).loc Cert.KernelIdeal.main_v67_5) = v3 c
          ∧ r.2.mem ((c.tc : Thread Cert.KernelIdeal.nD Cert.KernelIdeal.τ).loc Cert.KernelIdeal.main_v67_6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_v67) = v4 c
          ∧ r.2.mem ((c.tc : Thread Cert.Reference3Ideal.nD Cert.Reference3Ideal.τ).loc Cert.Reference3Ideal.main_v63) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite2.lean ====
abbrev S2048x5376 : Shape := ⟨2, ![2048, 5376]⟩
abbrev S2048x2048 : Shape := ⟨2, ![2048, 2048]⟩
abbrev S1x2048 : Shape := ⟨2, ![1, 2048]⟩
abbrev S1x6144 : Shape := ⟨2, ![1, 6144]⟩
abbrev S8x128 : Shape := ⟨2, ![8, 128]⟩
abbrev S_ : Shape := ⟨0, ![]⟩

class Facts : Prop where
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S2048x5376 : S_.BroadcastsInDim S2048x5376 (![] : Fin 0 → Fin S2048x5376.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x5376 .bf16) (main_arg1 : FVec F S2048x5376 .f32) (main_arg2 : FVec F S2048x2048 .f32) (main_arg3 : FVec F S2048x2048 .f32) (main_arg4 : FVec F S1x2048 .f32) (main_arg5 : FVec F S1x6144 .f32) (main_arg6 : FVec F S8x128 .f32) : IVec S2048x5376 1 × IVec S2048x5376 1 × IVec S2048x2048 1 × IVec S1x2048 1 × IVec S1x2048 1 :=
  let main_v0 : FVec F S1x2048 .f32 := (extractStridedSlice S1x2048 ![0, 0] · slices_S1x6144_S1x2048_0_0) main_arg5
  let main_v1 : FVec F S1x2048 .f32 := (extractStridedSlice S1x2048 ![0, 2048] · slices_S1x6144_S1x2048_0_2048) main_arg5
  let main_v2 : FVec F S1x2048 .f32 := (extractStridedSlice S1x2048 ![0, 4096] · slices_S1x6144_S1x2048_0_4096) main_arg5
  let main_v3 : FVec F S2048x5376 .bf16 := Host.absf main_arg0
  let main_cst : FVec F S_ .bf16 := constant S_ .bf16 0x7F80#16
  let main_v4 : FVec F S2048x5376 .bf16 := broadcastInDim S2048x5376 ![] bcast_S_S2048x5376 main_cst
  let main_v5 : IVec S2048x5376 1 := cmpf .olt main_v3 main_v4
  let main_v6 : FVec F S2048x5376 .f32 := Host.absf main_arg1
  let main_cst_0 : FVec F S_ .f32 := constant S_ .f32 0x7F800000#32
  let main_v7 : FVec F S2048x5376 .f32 := broadcastInDim S2048x5376 ![] bcast_S_S2048x5376 main_cst_0
  let main_v8 : IVec S2048x5376 1 := cmpf .olt main_v6 main_v7
  let main_v9 : FVec F S2048x2048 .f32 := Host.absf main_arg2
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_v12 : FVec F S1x2048 .f32 := Host.absf main_arg4
  let main_cst_2 : FVec F S_ .f32 := constant S_ .f32 0x7F800000#32
  let main_v13 : FVec F S1x2048 .f32 := broadcastInDim S1x2048 ![] bcast_S_S1x2048 main_cst_2
  let main_v14 : IVec S1x2048 1 := cmpf .olt main_v12 main_v13
  let main_v15 : FVec F S1x2048 .f32 := Host.absf main_v1
  let main_cst_3 : FVec F S_ .f32 := constant S_ .f32 0x7F800000#32
  let main_v16 : FVec F S1x2048 .f32 := broadcastInDim S1x2048 ![] bcast_S_S1x2048 main_cst_3
  let main_v17 : IVec S1x2048 1 := cmpf .olt main_v15 main_v16
  (main_v5, main_v8, main_v11, main_v14, main_v17)
-- ==== Kernel.lean ====
abbrev S2048x5376 : Shape := ⟨2, ![2048, 5376]⟩
abbrev S2048x2048 : Shape := ⟨2, ![2048, 2048]⟩
abbrev S16 : Shape := ⟨1, ![16]⟩
abbrev S1024 : Shape := ⟨1, ![1024]⟩
abbrev S8x128x128 : Shape := ⟨3, ![8, 128, 128]⟩
abbrev S8x128 : Shape := ⟨2, ![8, 128]⟩
abbrev S2048x1024 : Shape := ⟨2, ![2048, 1024]⟩
abbrev S2048x128 : Shape := ⟨2, ![2048, 128]⟩
abbrev S16x128x2x8x64 : Shape := ⟨5, ![16, 128, 2, 8, 64]⟩
abbrev S16x128x2x64 : Shape := ⟨4, ![16, 128, 2, 64]⟩
abbrev S_ : Shape := ⟨0, ![]⟩
abbrev S17x128x2x64 : Shape := ⟨4, ![17, 128, 2, 64]⟩
abbrev S16x256x2x64 : Shape := ⟨4, ![16, 256, 2, 64]⟩
abbrev S16x2x256x128x8 : Shape := ⟨5, ![16, 2, 256, 128, 8]⟩
abbrev S16x2x8x128x256 : Shape := ⟨5, ![16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S2x8 : Shape := ⟨2, ![2, 8]⟩
abbrev S1x2x8x1x1 : Shape := ⟨5, ![1, 2, 8, 1, 1]⟩
abbrev S16x2x8x128x1 : Shape := ⟨5, ![16, 2, 8, 128, 1]⟩
abbrev S16x2x8x128x257 : Shape := ⟨5, ![16, 2, 8, 128, 257]⟩
abbrev S16x2x8x128 : Shape := ⟨4, ![16, 2, 8, 128]⟩
abbrev S16x2x257x8x128 : Shape := ⟨5, ![16, 2, 257, 8, 128]⟩
abbrev S16x2x257x1024 : Shape := ⟨4, ![16, 2, 257, 1024]⟩
abbrev S16x2x256x1024 : Shape := ⟨4, ![16, 2, 256, 1024]⟩
abbrev S16x2x1x1024 : Shape := ⟨4, ![16, 2, 1, 1024]⟩
abbrev S1x1024 : Shape := ⟨2, ![1, 1024]⟩
abbrev S128x8 : Shape := ⟨2, ![128, 8]⟩
abbrev S1x128 : Shape := ⟨2, ![1, 128]⟩
abbrev S256x5376 : Shape := ⟨2, ![256, 5376]⟩
abbrev S256x2048 : Shape := ⟨2, ![256, 2048]⟩
abbrev S2x2x256x1024 : Shape := ⟨4, ![2, 2, 256, 1024]⟩
abbrev S2x2x1x1024 : Shape := ⟨4, ![2, 2, 1, 1024]⟩
abbrev S2048x256 : Shape := ⟨2, ![2048, 256]⟩
abbrev S2x1x1024 : Shape := ⟨3, ![2, 1, 1024]⟩
abbrev S128x128 : Shape := ⟨2, ![128, 128]⟩
abbrev S256x128 : Shape := ⟨2, ![256, 128]⟩
abbrev S64x128 : Shape := ⟨2, ![64, 128]⟩
abbrev S128x1024 : Shape := ⟨2, ![128, 1024]⟩
abbrev S1x2x256x1024 : Shape := ⟨4, ![1, 2, 256, 1024]⟩
abbrev S2x256x1024 : Shape := ⟨3, ![2, 256, 1024]⟩
abbrev S1x256x1024 : Shape := ⟨3, ![1, 256, 1024]⟩
abbrev S256x1024 : Shape := ⟨2, ![256, 1024]⟩
abbrev S1x2x1x1024 : Shape := ⟨4, ![1, 2, 1, 1024]⟩
abbrev S1x1x1024 : Shape := ⟨3, ![1, 1, 1024]⟩
abbrev S256x256 : Shape := ⟨2, ![256, 256]⟩
abbrev S1x128x128 : Shape := ⟨3, ![1, 128, 128]⟩
abbrev S1 : Shape := ⟨1, ![1]⟩
abbrev S1x1 : Shape := ⟨2, ![1, 1]⟩

abbrev nBuf : Space → Nat
  | .hbm => 99
  | .vmem => 30
  | .smem => 0
  | _ => 0

abbrev bufTy : (tb : Table) → Fin (tcTables nBuf tb) → BufTy
  | .hbm, ⟨0, _⟩ => ⟨S2048x5376, .f32⟩
  | .hbm, ⟨1, _⟩ => ⟨S2048x2048, .f32⟩
  | .hbm, ⟨2, _⟩ => ⟨S16, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x1024, .f32⟩
  | .hbm, ⟨11, _⟩ => ⟨S2048x128, .f32⟩
  | .hbm, ⟨12, _⟩ => ⟨S16x128x2x8x64, .f32⟩
  | .hbm, ⟨13, _⟩ => ⟨S16x128x2x64, .f32⟩
  | .hbm, ⟨14, _⟩ => ⟨S_, .i32⟩
  | .hbm, ⟨15, _⟩ => ⟨S_, .f32⟩
  | .hbm, ⟨16, _⟩ => ⟨S17x128x2x64, .f32⟩
  | .hbm, ⟨17, _⟩ => ⟨S16x128x2x64, .f32⟩
  | .hbm, ⟨18, _⟩ => ⟨S16x256x2x64, .f32⟩
  | .hbm, ⟨19, _⟩ => ⟨S16x2x256x128x8, .f32⟩
  | .hbm, ⟨20, _⟩ => ⟨S16x2x8x128x256, .f32⟩
  | .hbm, ⟨21, _⟩ => ⟨S_, .f32⟩
  | .hbm, ⟨22, _⟩ => ⟨S16x2x8x128x256, .f32⟩
  | .hbm, ⟨23, _⟩ => ⟨S16x2x8x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16x1x1, .i1⟩
  | .hbm, ⟨46, _⟩ => ⟨S256, .i32⟩
  | .hbm, ⟨47, _⟩ => ⟨S1x256, .i32⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S16x1x256, .i1⟩
  | .hbm, ⟨53, _⟩ => ⟨S16x1x256, .i1⟩
  | .hbm, ⟨54, _⟩ => ⟨S16x1x256, .i1⟩
  | .hbm, ⟨55, _⟩ => ⟨S1x128x256, .i1⟩
  | .hbm, ⟨56, _⟩ => ⟨S16x128x256, .i1⟩
  | .hbm, ⟨57, _⟩ => ⟨S16x128x256, .i1⟩
  | .hbm, ⟨58, _⟩ => ⟨S16x128x256, .i1⟩
  | .hbm, ⟨59, _⟩ => ⟨S16x1x1x128x256, .i1⟩
  | .hbm, ⟨60, _⟩ => ⟨S_, .f32⟩
  | .hbm, ⟨61, _⟩ => ⟨S_, .f32⟩
  | .hbm, ⟨62, _⟩ => ⟨S16x2x8x128x256, .i1⟩
  | .hbm, ⟨63, _⟩ => ⟨S16x2x8x128x256, .f32⟩
  | .hbm, ⟨64, _⟩ => ⟨S16x2x8x128x256, .f32⟩
  | .hbm, ⟨65, _⟩ => ⟨S2x8, .f32⟩
  | .hbm, ⟨66, _⟩ => ⟨S1x2x8x1x1, .f32⟩
  | .hbm, ⟨67, _⟩ => ⟨S16x2x8x128x1, .f32⟩
  | .hbm, ⟨68, _⟩ => ⟨S16x2x8x128x257, .f32⟩
  | .hbm, ⟨69, _⟩ => ⟨S_, .f32⟩
  | .hbm, ⟨70, _⟩ => ⟨S16x2x8x128, .f32⟩
  | .hbm, ⟨71, _⟩ => ⟨S_, .f32⟩
  | .hbm, ⟨72, _⟩ => ⟨S16x2x8x128, .f32⟩
  | .hbm, ⟨73, _⟩ => ⟨S16x2x8x128, .f32⟩
  | .hbm, ⟨74, _⟩ => ⟨S16x2x8x128x1, .f32⟩
  | .hbm, ⟨75, _⟩ => ⟨S16x2x8x128x257, .f32⟩
  | .hbm, ⟨76, _⟩ => ⟨S16x2x8x128x257, .f32⟩
  | .hbm, ⟨77, _⟩ => ⟨S16x2x8x128x257, .f32⟩
  | .hbm, ⟨78, _⟩ => ⟨S_, .f32⟩
  | .hbm, ⟨79, _⟩ => ⟨S16x2x8x128, .f32⟩
  | .hbm, ⟨80, _⟩ => ⟨S16x2x8x128x1, .f32⟩
  | .hbm, ⟨81, _⟩ => ⟨S16x2x8x128x257, .f32⟩
  | .hbm, ⟨82, _⟩ => ⟨S16x2x8x128x257, .f32⟩
  | .hbm, ⟨83, _⟩ => ⟨S16x2x257x8x128, .f32⟩
  | .hbm, ⟨84, _⟩ => ⟨S16x2x257x1024, .f32⟩
  | .hbm, ⟨85, _⟩ => ⟨S16x2x256x1024, .f32⟩
  | .hbm, ⟨86, _⟩ => ⟨S16x2x256x1024, .bf16⟩
  | .hbm, ⟨87, _⟩ => ⟨S16x2x1x1024, .f32⟩
  | .hbm, ⟨88, _⟩ => ⟨S1x1024, .f32⟩
  | .hbm, ⟨89, _⟩ => ⟨S1x1024, .f32⟩
  | .hbm, ⟨90, _⟩ => ⟨S8x128x128, .f32⟩
  | .hbm, ⟨91, _⟩ => ⟨S128x8, .f32⟩
  | .hbm, ⟨92, _⟩ => ⟨S2048x5376, .bf16⟩
  | .hbm, ⟨93, _⟩ => ⟨S1x128, .f32⟩
  | .hbm, ⟨94, _⟩ => ⟨S8x128x128, .f32⟩
  | .hbm, ⟨95, _⟩ => ⟨S8x128, .f32⟩
  | .hbm, ⟨96, _⟩ => ⟨S1x1024, .f32⟩
  | .hbm, ⟨97, _⟩ => ⟨S1x1024, .f32⟩
  | .hbm, ⟨98, _⟩ => ⟨S2048x2048, .bf16⟩
  | .local _ .vmem, ⟨0, _⟩ => ⟨S256x5376, .f32⟩
  | .local _ .vmem, ⟨1, _⟩ => ⟨S256x5376, .f32⟩
  | .local _ .vmem, ⟨2, _⟩ => ⟨S128x256, .f32⟩
  | .local _ .vmem, ⟨3, _⟩ => ⟨S128x256, .f32⟩
  | .local _ .vmem, ⟨4, _⟩ => ⟨S256x2048, .f32⟩
  | .local _ .vmem, ⟨5, _⟩ => ⟨S256x2048, .f32⟩
  | .local _ .vmem, ⟨6, _⟩ => ⟨S2x2x256x1024, .bf16⟩
  | .local _ .vmem, ⟨7, _⟩ => ⟨S2x2x256x1024, .bf16⟩
  | .local _ .vmem, ⟨8, _⟩ => ⟨S2x2x1x1024, .f32⟩
  | .local _ .vmem, ⟨9, _⟩ => ⟨S2x2x1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S8x128x128, .f32⟩
  | .local _ .vmem, ⟨14, _⟩ => ⟨S128x8, .f32⟩
  | .local _ .vmem, ⟨15, _⟩ => ⟨S2048x256, .bf16⟩
  | .local _ .vmem, ⟨16, _⟩ => ⟨S2048x256, .bf16⟩
  | .local _ .vmem, ⟨17, _⟩ => ⟨S2048x2048, .bf16⟩
  | .local _ .vmem, ⟨18, _⟩ => ⟨S256x5376, .bf16⟩
  | .local _ .vmem, ⟨19, _⟩ => ⟨S256x5376, .bf16⟩
  | .local _ .vmem, ⟨20, _⟩ => ⟨S1x128, .f32⟩
  | .local _ .vmem, ⟨21, _⟩ => ⟨S8x128x128, .f32⟩
  | .local _ .vmem, ⟨22, _⟩ => ⟨S8x128, .f32⟩
  | .local _ .vmem, ⟨23, _⟩ => ⟨S1x1024, .f32⟩
  | .local _ .vmem, ⟨24, _⟩ => ⟨S1x1024, .f32⟩
  | .local _ .vmem, ⟨25, _⟩ => ⟨S256x2048, .bf16⟩
  | .local _ .vmem, ⟨26, _⟩ => ⟨S256x2048, .bf16⟩
  | .local _ .vmem, ⟨27, _⟩ => ⟨S128x256, .f32⟩
  | .local _ .vmem, ⟨28, _⟩ => ⟨S2x1x1024, .f32⟩
  | .local _ .vmem, ⟨29, _⟩ => ⟨S128x128, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67_0 : Ref sig .tc := ⟨.hbm, 92, rfl⟩
abbrev main_v67_1 : Ref sig .tc := ⟨.hbm, 93, rfl⟩
abbrev main_v67_2 : Ref sig .tc := ⟨.hbm, 94, rfl⟩
abbrev main_v67_3 : Ref sig .tc := ⟨.hbm, 95, rfl⟩
abbrev main_v67_4 : Ref sig .tc := ⟨.hbm, 96, rfl⟩
abbrev main_v67_5 : Ref sig .tc := ⟨.hbm, 97, rfl⟩
abbrev main_v67_6 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1073 : BitVec 32 := 7#32
  let v2126 : BitVec 1 := Scalar.cmpi .eq arg0 c7_i32_1073
  let v2127 : BitVec 32 := Scalar.extui v2126
  let c0_i32_1074 : BitVec 32 := 0#32
  let v2128 : BitVec 1 := Scalar.cmpi .ne v2127 c0_i32_1074
  v2128

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5376 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S2048x5376 : Shape := ⟨2, ![2048, 5376]⟩
abbrev S2048x2048 : Shape := ⟨2, ![2048, 2048]⟩
abbrev S16 : Shape := ⟨1, ![16]⟩
abbrev S1024 : Shape := ⟨1, ![1024]⟩
abbrev S8x128x128 : Shape := ⟨3, ![8, 128, 128]⟩
abbrev S8x128 : Shape := ⟨2, ![8, 128]⟩
abbrev S2048x3072 : Shape := ⟨2, ![2048, 3072]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 112
  | .vmem => 0
  | .smem => 0
  | _ => 0

abbrev bufTy : (tb : Table) → Fin (tcTables nBuf tb) → BufTy
  | .hbm, ⟨0, _⟩ => ⟨S2048x5376, .f32⟩
  | .hbm, ⟨1, _⟩ => ⟨S2048x2048, .f32⟩
  | .hbm, ⟨2, _⟩ => ⟨S16, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x3072, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S16x128x8x128, .f32⟩
  | .hbm, ⟨44, _⟩ => ⟨S_, .f32⟩
  | .hbm, ⟨45, _⟩ => ⟨S128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S8x128x128, .f32⟩
  | .hbm, ⟨57, _⟩ => ⟨S8x128x128, .f32⟩
  | .hbm, ⟨58, _⟩ => ⟨S8x16x128x128, .f32⟩
  | .hbm, ⟨59, _⟩ => ⟨S16x128x8x128, .f32⟩
  | .hbm, ⟨60, _⟩ => ⟨S128x8, .f32⟩
  | .hbm, ⟨61, _⟩ => ⟨S1x128x8x1, .f32⟩
  | .hbm, ⟨62, _⟩ => ⟨S16x128x8x128, .f32⟩
  | .hbm, ⟨63, _⟩ => ⟨S16x128x8x128, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S16x128x8x128, .f32⟩
  | .hbm, ⟨80, _⟩ => ⟨S_, .f32⟩
  | .hbm, ⟨81, _⟩ => ⟨S128x8, .f32⟩
  | .hbm, ⟨82, _⟩ => ⟨S1x128x8x1, .f32⟩
  | .hbm, ⟨83, _⟩ => ⟨S_, .f32⟩
  | .hbm, ⟨84, _⟩ => ⟨S128x8, .f32⟩
  | .hbm, ⟨85, _⟩ => ⟨S8x128, .f32⟩
  | .hbm, ⟨86, _⟩ => ⟨S8x16x128x128, .f32⟩
  | .hbm, ⟨87, _⟩ => ⟨S8x128x128, .f32⟩
  | .hbm, ⟨88, _⟩ => ⟨S8x16x128x128, .f32⟩
  | .hbm, ⟨89, _⟩ => ⟨S16x128x8x128, .f32⟩
  | .hbm, ⟨90, _⟩ => ⟨S8x128x128, .f32⟩
  | .hbm, ⟨91, _⟩ => ⟨S8x128x128, .f32⟩
  | .hbm, ⟨92, _⟩ => ⟨S2048x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S1024, .f32⟩
  | .hbm, ⟨98, _⟩ => ⟨S2048x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S2048x2048, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S2048x2048, .f32⟩
  | .hbm, ⟨109, _⟩ => ⟨S1x1024, .f32⟩
  | .hbm, ⟨110, _⟩ => ⟨S1x1024, .f32⟩
  | .hbm, ⟨111, _⟩ => ⟨S2048x2048, .bf16⟩
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_cst : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_5 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_7 : Ref sig .tc := ⟨.hbm, 93, rfl⟩
abbrev main_v59 : Ref sig .tc := ⟨.hbm, 94, rfl⟩
abbrev main_v60 : Ref sig .tc := ⟨.hbm, 95, rfl⟩
abbrev main_cst_8 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_v63 : Ref sig .tc := ⟨.hbm, 100, rfl⟩
abbrev main_v64 : Ref sig .tc := ⟨.hbm, 101, rfl⟩
abbrev main_cst_10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== Kernel2.lean ====
abbrev S2048x5376 : Shape := ⟨2, ![2048, 5376]⟩
abbrev S2048x2048 : Shape := ⟨2, ![2048, 2048]⟩
abbrev S1x2048 : Shape := ⟨2, ![1, 2048]⟩
abbrev S1x6144 : Shape := ⟨2, ![1, 6144]⟩
abbrev S8x128 : Shape := ⟨2, ![8, 128]⟩
abbrev S5376x2048 : Shape := ⟨2, ![5376, 2048]⟩
abbrev S256x5376 : Shape := ⟨2, ![256, 5376]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 15
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S8x128, .f32⟩
  | .hbm, ⟨7, _⟩ => ⟨S5376x2048, .f32⟩
  | .hbm, ⟨8, _⟩ => ⟨S5376x2048, .bf16⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x5376, .bf16⟩
  | .local _ .vmem, ⟨1, _⟩ => ⟨S256x5376, .bf16⟩
  | .local _ .vmem, ⟨2, _⟩ => ⟨S5376x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S8x128, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x5376 : Shape := ⟨2, ![2048, 5376]⟩
abbrev S2048x2048 : Shape := ⟨2, ![2048, 2048]⟩
abbrev S1x2048 : Shape := ⟨2, ![1, 2048]⟩
abbrev S1x6144 : Shape := ⟨2, ![1, 6144]⟩
abbrev S8x128 : Shape := ⟨2, ![8, 128]⟩
abbrev S_ : Shape := ⟨0, ![]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S8x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x5376, .f32⟩
  | .hbm, ⟨37, _⟩ => ⟨S2048x5376, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel3.lean ====
abbrev S2048x2048 : Shape := ⟨2, ![2048, 2048]⟩
abbrev S1x6144 : Shape := ⟨2, ![1, 6144]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 14
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x6144, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S1x128, .f32⟩
  | .hbm, ⟨12, _⟩ => ⟨S1x2048, .f32⟩
  | .hbm, ⟨13, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S1x128, .f32⟩
  | .local _ .vmem, ⟨16, _⟩ => ⟨S1x2048, .f32⟩
  | .local _ .vmem, ⟨17, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S2048x2048 : Shape := ⟨2, ![2048, 2048]⟩
abbrev S1x6144 : Shape := ⟨2, ![1, 6144]⟩
abbrev S2048 : Shape := ⟨1, ![2048]⟩
abbrev S1x2048 : Shape := ⟨2, ![1, 2048]⟩
abbrev S_ : Shape := ⟨0, ![]⟩
abbrev S2048x1 : Shape := ⟨2, ![2048, 1]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x6144, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S2048x2048, .f32⟩
  | .hbm, ⟨89, _⟩ => ⟨S2048x2048, .bf16⟩
  | .hbm, ⟨90, _⟩ => ⟨S1x128, .f32⟩
  | .hbm, ⟨91, _⟩ => ⟨S1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel4.lean ====
abbrev S2048x5376 : Shape := ⟨2, ![2048, 5376]⟩
abbrev S2048x2048 : Shape := ⟨2, ![2048, 2048]⟩
abbrev S1x2048 : Shape := ⟨2, ![1, 2048]⟩
abbrev S1x6144 : Shape := ⟨2, ![1, 6144]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S5376x2048 : Shape := ⟨2, ![5376, 2048]⟩
abbrev S2048x768 : Shape := ⟨2, ![2048, 768]⟩
abbrev S768x2048 : Shape := ⟨2, ![768, 2048]⟩

abbrev nBuf : Space → Nat
  | .hbm => 33
  | .vmem => 6
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S1x2048, .f32⟩
  | .hbm, ⟨4, _⟩ => ⟨S1x6144, .f32⟩
  | .hbm, ⟨5, _⟩ => ⟨S8x128, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S5376x2048, .bf16⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S8x128, .f32⟩
  | .local _ .vmem, ⟨4, _⟩ => ⟨S768x2048, .bf16⟩
  | .local _ .vmem, ⟨5, _⟩ => ⟨S768x2048, .bf16⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x5376 : Shape := ⟨2, ![2048, 5376]⟩
abbrev S2048x2048 : Shape := ⟨2, ![2048, 2048]⟩
abbrev S1x2048 : Shape := ⟨2, ![1, 2048]⟩
abbrev S1x6144 : Shape := ⟨2, ![1, 6144]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S5376x2048 : Shape := ⟨2, ![5376, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S1x2048, .f32⟩
  | .hbm, ⟨4, _⟩ => ⟨S1x6144, .f32⟩
  | .hbm, ⟨5, _⟩ => ⟨S8x128, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x5376, .f32⟩
  | .hbm, ⟨32, _⟩ => ⟨S2048x5376, .f32⟩
  | .hbm, ⟨33, _⟩ => ⟨S5376x2048, .f32⟩
  | .hbm, ⟨34, _⟩ => ⟨S2048x5376, .f32⟩
  | .hbm, ⟨35, _⟩ => ⟨S5376x2048, .f32⟩
  | .hbm, ⟨36, _⟩ => ⟨S5376x2048, .bf16⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S8x2048 : Shape := ⟨2, ![8, 2048]⟩
abbrev S8x6144 : Shape := ⟨2, ![8, 6144]⟩
abbrev S2048x768 : Shape := ⟨2, ![2048, 768]⟩
abbrev S_ : Shape := ⟨0, ![]⟩
abbrev S1 : Shape := ⟨1, ![1]⟩
abbrev S2048x8 : Shape := ⟨2, ![2048, 8]⟩
abbrev S512x8 : Shape := ⟨2, ![512, 8]⟩
abbrev S8x768 : Shape := ⟨2, ![8, 768]⟩
abbrev S512x768 : Shape := ⟨2, ![512, 768]⟩

abbrev nBuf : Space → Nat
  | .hbm => 11
  | .vmem => 17
  | .smem => 1
  | _ => 0

abbrev bufTy : (tb : Table) → Fin (tcTables nBuf tb) → BufTy
  | .hbm, ⟨0, _⟩ => ⟨S8x2048, .f32⟩
  | .hbm, ⟨1, _⟩ => ⟨S8x6144, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S_, .i32⟩
  | .hbm, ⟨6, _⟩ => ⟨S2048x8, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x8, .f32⟩
  | .local _ .vmem, ⟨1, _⟩ => ⟨S512x8, .f32⟩
  | .local _ .vmem, ⟨2, _⟩ => ⟨S8x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .smem, ⟨0, _⟩ => ⟨S1, .i32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x2048 : Shape := ⟨2, ![8, 2048]⟩
abbrev S8x6144 : Shape := ⟨2, ![8, 6144]⟩
abbrev S2048x768 : Shape := ⟨2, ![2048, 768]⟩
abbrev S8x768 : Shape := ⟨2, ![8, 768]⟩
abbrev S768x2048 : Shape := ⟨2, ![768, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x6144, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S8x768, .f32⟩
  | .hbm, ⟨6, _⟩ => ⟨S8x768, .f32⟩
  | .hbm, ⟨7, _⟩ => ⟨S768x2048, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S_, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Lift.lean ====
/-
  Finite arrays read as arrays of real numbers.

  At `Ideal` a float is an extended real. Where every element of an array is finite, the array is `up v` for an array
  `v` of reals, and each float operation on such arrays is the real operation on the reals (`up_mulf`, `up_matmul`, …).
  A layout operation does not look at its elements, so it is the same operation on both sides (`up_broadcastTo`, …).
  A program's value on finite arguments is therefore `up` of a real formula, and two programs are compared there,
  where a product distributes over a sum.
-/
module

public import Idealize.ShloMosaic.Lib.ValueIdx
public import Idealize.ShloMosaic.Lib.Pipeline.Value
public import Idealize.ShloMosaic.Lib.KernelVsHost
public import Idealize.ShloMosaic.PureOps.Ideal.Laws

@[expose] public section

noncomputable section

namespace Cert.Lift

open Idealize.ShloMosaic
open scoped BigOperators

variable {s t u : Shape} {φ ψ : FTy}

/-- An array of reals as an array of extended reals. -/
def up (v : s.Idx → ℝ) : FVec Ideal s φ := fun i => ((v i : ℝ) : EReal)

theorem up_apply (v : s.Idx → ℝ) (i : s.Idx) : (up v : FVec Ideal s φ) i = ((v i : ℝ) : EReal) := rfl

/-- A finite sum of reals, summed as extended reals. -/
theorem coe_sum {ι : Type*} (a : Finset ι) (f : ι → ℝ) : (∑ k ∈ a, ((f k : ℝ) : EReal)) = ((∑ k ∈ a, f k : ℝ) : EReal) := by
  classical
  induction a using Finset.induction_on with
  | empty => simp
  | insert k a h ih => rw [Finset.sum_insert h, Finset.sum_insert h, ih, EReal.coe_add]

/-- An array without infinities is an array of reals. -/
theorem exists_up (x : FVec Ideal s φ) (h : ∀ i, x i ≠ ⊤ ∧ x i ≠ ⊥) : ∃ v : s.Idx → ℝ, x = up v :=
  ⟨fun i => (x i).toReal, funext fun i => (EReal.coe_toReal (h i).1 (h i).2).symm⟩

/-- "Its absolute value is below plus infinity", asked of an element, says that it is finite. -/
theorem finite_of_abs_lt {a : EReal} (h : Ideal.cmp .olt (max a (-a)) ⊤ = 1#1) : a ≠ ⊤ ∧ a ≠ ⊥ := by
  have h' : max a (-a) < ⊤ := by
    by_contra hn
    simp only [Ideal.cmp, hn, decide_false] at h
    exact absurd h (by decide)
  constructor
  · rintro rfl
    simp at h'
  · rintro rfl
    simp at h'

/-! ### Arithmetic -/

theorem up_mulf (a b : s.Idx → ℝ) : mulf (up a : FVec Ideal s φ) (up b) = up (fun i => a i * b i) :=
  funext fun i => (EReal.coe_mul (a i) (b i)).symm

theorem up_addf (a b : s.Idx → ℝ) : addf (up a : FVec Ideal s φ) (up b) = up (fun i => a i + b i) :=
  funext fun i => (EReal.coe_add (a i) (b i)).symm

theorem up_subf (a b : s.Idx → ℝ) : subf (up a : FVec Ideal s φ) (up b) = up (fun i => a i - b i) :=
  funext fun i => (EReal.coe_sub (a i) (b i)).symm

theorem div_coe {a b : ℝ} (h : b ≠ 0) : Ideal.div (a : EReal) (b : EReal) = ((a / b : ℝ) : EReal) := by
  have hb : (b : EReal) ≠ 0 := by exact_mod_cast h
  rw [Ideal.div, if_neg hb, ← EReal.coe_inv, ← EReal.coe_mul, div_eq_mul_inv]

theorem up_divf (a b : s.Idx → ℝ) (h : ∀ i, b i ≠ 0) : divf (up a : FVec Ideal s φ) (up b) = up (fun i => a i / b i) :=
  funext fun i => div_coe (h i)

theorem up_hostDivf (a b : s.Idx → ℝ) (h : ∀ i, b i ≠ 0) :
    Host.divf (up a : FVec Ideal s φ) (up b) = up (fun i => a i / b i) :=
  funext fun i => div_coe (h i)

theorem rsqrt_coe {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

theorem up_rsqrt (a : s.Idx → ℝ) (h : ∀ i, 0 < a i) : rsqrt (up a : FVec Ideal s φ) = up (fun i => (Real.sqrt (a i))⁻¹) :=
  funext fun i => rsqrt_coe (h i)

theorem up_hostRsqrt (a : s.Idx → ℝ) (h : ∀ i, 0 < a i) :
    Host.rsqrt (up a : FVec Ideal s φ) = up (fun i => (Real.sqrt (a i))⁻¹) :=
  funext fun i => rsqrt_coe (h i)

theorem up_truncf (a : s.Idx → ℝ) (h : ψ.bits < φ.bits) : truncf ψ (up a : FVec Ideal s φ) h = up a := rfl

theorem up_extf (a : s.Idx → ℝ) (h : φ.bits < ψ.bits) : extf ψ (up a : FVec Ideal s φ) h = up a := rfl

/-! ### Literals -/

theorem lit_zero : (FloatOps.ofBits .f32 0x00000000#32 : Ideal .f32) = ((0 : ℝ) : EReal) := by
  show Ideal.ofBits .f32 _ = _
  simp

theorem lit_one : (FloatOps.ofBits .f32 0x3F800000#32 : Ideal .f32) = ((1 : ℝ) : EReal) := by
  show Ideal.ofBits .f32 _ = _
  simp [Ideal.ofBits, Ideal.ieee, -EReal.coe_mul]; norm_num

theorem lit_neg_half : (FloatOps.ofBits .f32 0xBF000000#32 : Ideal .f32) = ((-1/2 : ℝ) : EReal) := by
  show Ideal.ofBits .f32 _ = _
  simp [Ideal.ofBits, Ideal.ieee, -EReal.coe_mul]; norm_num

theorem lit_half : (FloatOps.ofBits .f32 0x3F000000#32 : Ideal .f32) = ((1/2 : ℝ) : EReal) := by
  show Ideal.ofBits .f32 _ = _
  simp [Ideal.ofBits, Ideal.ieee, -EReal.coe_mul]; norm_num

theorem lit_2048 : (FloatOps.ofBits .f32 0x45000000#32 : Ideal .f32) = ((2048 : ℝ) : EReal) := by
  show Ideal.ofBits .f32 _ = _
  simp [Ideal.ofBits, Ideal.ieee, -EReal.coe_mul]; norm_num

/-- The small number added under each square root: the float nearest to a millionth. -/
def eps : ℝ := 8796093 / 2 ^ 43

theorem lit_eps : (FloatOps.ofBits .f32 0x358637BD#32 : Ideal .f32) = (eps : EReal) := by
  show Ideal.ofBits .f32 _ = _
  simp [Ideal.ofBits, Ideal.ieee, -EReal.coe_mul, eps]; norm_num

theorem eps_pos : 0 < eps := by unfold eps; norm_num

theorem up_splat (r : ℝ) (x : Ideal φ) (h : x = (r : EReal)) : (broadcast s x : FVec Ideal s φ) = up (fun _ => r) :=
  funext fun _ => h

theorem up_constant (r : ℝ) (b : BitVec φ.bits) (h : (FloatOps.ofBits φ b : Ideal φ) = (r : EReal)) :
    (constant s φ b : FVec Ideal s φ) = up (fun _ => r) :=
  funext fun _ => h

/-! ### Layout -/

theorem up_broadcastTo (a : s.Idx → ℝ) (h : s.Broadcasts t) :
    broadcastTo t (up a : FVec Ideal s φ) h = (up (broadcastTo t a h) : FVec Ideal t φ) := rfl

theorem up_shapeCast (a : s.Idx → ℝ) (h : s.ShapeCasts t) :
    shapeCast t (up a : FVec Ideal s φ) h = (up (shapeCast t a h) : FVec Ideal t φ) := rfl

theorem up_transpose (p : List (Fin s.rank)) (a : s.Idx → ℝ) (h : s.Transposes p t) :
    transpose t p (up a : FVec Ideal s φ) h = (up (transpose t p a h) : FVec Ideal t φ) := rfl

theorem up_slice (off : Fin s.rank → Nat) (a : s.Idx → ℝ) (h : s.Slices off t) :
    extractStridedSlice t off (up a : FVec Ideal s φ) h = (up (extractStridedSlice t off a h) : FVec Ideal t φ) := rfl

theorem up_broadcastInDim (d : Fin s.rank → Fin t.rank) (h : s.BroadcastsInDim t d) (a : s.Idx → ℝ) :
    broadcastInDim t d h (up a : FVec Ideal s φ) = (up (broadcastInDim t d h a) : FVec Ideal t φ) := rfl

/-! ### Reading a layout operation on a matrix at an entry -/

section Layout
variable {α : Type} {n m : Nat}
open ValueIdx

/-- The one coordinate of an index of a vector. -/
abbrev only (j : (⟨1, ![n]⟩ : Shape).Idx) : Fin n := j 0
/-- The row of an index of a matrix. -/
abbrev fst (j : (⟨2, ![n, m]⟩ : Shape).Idx) : Fin n := j 0
/-- The column of an index of a matrix. -/
abbrev snd (j : (⟨2, ![n, m]⟩ : Shape).Idx) : Fin m := j 1

theorem bcRow_apply (x : (⟨2, ![1, m]⟩ : Shape).Idx → α) (h : (⟨2, ![1, m]⟩ : Shape).Broadcasts ⟨2, ![n, m]⟩)
    (j : (⟨2, ![n, m]⟩ : Shape).Idx) : broadcastTo ⟨2, ![n, m]⟩ x h j = x (ix2 0 (j 1)) :=
  broadcastTo_apply x h j _ fun a => by
    match a with
    | ⟨0, _⟩ => rfl
    | ⟨1, _⟩ =>
      show (j 1).val = if m = 1 then 0 else (j 1).val
      have := idx2_lt1 j
      split <;> omega

theorem bcCol_apply (x : (⟨2, ![n, 1]⟩ : Shape).Idx → α) (h : (⟨2, ![n, 1]⟩ : Shape).Broadcasts ⟨2, ![n, m]⟩)
    (j : (⟨2, ![n, m]⟩ : Shape).Idx) : broadcastTo ⟨2, ![n, m]⟩ x h j = x (ix2 (j 0) 0) :=
  broadcastTo_apply x h j _ fun a => by
    match a with
    | ⟨0, _⟩ =>
      show (j 0).val = if n = 1 then 0 else (j 0).val
      have := idx2_lt0 j
      split <;> omega
    | ⟨1, _⟩ => rfl

theorem castCol_apply (x : (⟨1, ![n]⟩ : Shape).Idx → α) (h : (⟨1, ![n]⟩ : Shape).ShapeCasts ⟨2, ![n, 1]⟩)
    (j : (⟨2, ![n, 1]⟩ : Shape).Idx) : shapeCast ⟨2, ![n, 1]⟩ x h j = x (ix1 (j 0)) :=
  shapeCast_apply x h j _ (by
    rw [Shape.rowMajor_val_one, Shape.rowMajor_val_two]
    show (j 0).val = (j 0).val * 1 + (j 1).val
    have := idx2_lt1 j
    omega)

theorem castRow_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (ix1 (j 1)) :=
  shapeCast_apply x h j _ (by
    rw [Shape.rowMajor_val_one, Shape.rowMajor_val_two]
    show (j 1).val = (j 0).val * n + (j 1).val
    have := idx2_lt0 j
    have h0 : (j 0).val = 0 := by omega
    rw [h0]; omega)

theorem lift_last (h : (⟨2, ![n, m]⟩ : Shape).Reduces [1] ⟨1, ![n]⟩) (j : (⟨1, ![n]⟩ : Shape).Idx) (k : Fin m) :
    h.lift j k = ix2 (j 0) k := Shape.idx_ext₂ rfl rfl

theorem lift_first (h : (⟨2, ![n, m]⟩ : Shape).Reduces [0] ⟨1, ![m]⟩) (j : (⟨1, ![m]⟩ : Shape).Idx) (k : Fin n) :
    h.lift j k = ix2 k (j 0) := Shape.idx_ext₂ rfl rfl

end Layout

/-! ### Sums and products of matrices -/

theorem up_sum {a : Fin s.rank} (h : s.Reduces [a] t) (acc : BitVec φ.bits) (hn) (ha) (v : s.Idx → ℝ) :
    multiReduction .add [a] t (up v : FVec Ideal s φ) acc h hn ha
      = up (fun j => ∑ k : Fin (s.size a), v (h.lift j k)) := by
  funext j
  rw [Ideal.multiReduction_add_single]
  exact coe_sum _ _

open ValueIdx in
/-- The sum of each row. -/
theorem up_sumLast {n m : Nat} (h : (⟨2, ![n, m]⟩ : Shape).Reduces [1] ⟨1, ![n]⟩) (acc : BitVec φ.bits) (hn) (ha)
    (v : (⟨2, ![n, m]⟩ : Shape).Idx → ℝ) :
    multiReduction .add [1] ⟨1, ![n]⟩ (up v : FVec Ideal _ φ) acc h hn ha = up (fun j => ∑ k : Fin m, v (ix2 (only j) k)) := by
  rw [up_sum]
  exact congrArg up (funext fun j => Finset.sum_congr rfl fun k _ => congrArg v (lift_last h j k))

open ValueIdx in
/-- The sum of each column. -/
theorem up_sumFirst {n m : Nat} (h : (⟨2, ![n, m]⟩ : Shape).Reduces [0] ⟨1, ![m]⟩) (acc : BitVec φ.bits) (hn) (ha)
    (v : (⟨2, ![n, m]⟩ : Shape).Idx → ℝ) :
    multiReduction .add [0] ⟨1, ![m]⟩ (up v : FVec Ideal _ φ) acc h hn ha = up (fun j => ∑ k : Fin n, v (ix2 k (only j))) := by
  rw [up_sum]
  exact congrArg up (funext fun j => Finset.sum_congr rfl fun k _ => congrArg v (lift_first h j k))

/-- A product into a zero accumulator, its one contracted axis of extent `n`; `L` and `R` say where the operands are read. -/
theorem up_matmul {sl sr so : Shape} {φ₁ φ₂ : FTy} (d : DotDims sl sr so) (n : Nat) (hr : d.contr.rank = 1)
    (hs : d.contr.size ⟨0, by omega⟩ = n) (L : so.Idx → Fin n → sl.Idx) (R : so.Idx → Fin n → sr.Idx)
    (hL : ∀ j q, d.lhsIdx j q = L j (ValueIdx.contrEquiv1 d n hr hs q))
    (hR : ∀ j q, d.rhsIdx j q = R j (ValueIdx.contrEquiv1 d n hr hs q)) (a : sl.Idx → ℝ) (b : sr.Idx → ℝ) :
    matmul d none (up a : FVec Ideal sl φ₁) (up b : FVec Ideal sr φ₂) (constant so .f32 0x00000000#32)
      = up (fun j => ∑ k : Fin n, a (L j k) * b (R j k)) := by
  funext j
  simp only [matmul]
  rw [Ideal.matmul_constant_zero_apply, up_apply, ← coe_sum, ← Equiv.sum_comp (ValueIdx.contrEquiv1 d n hr hs)]
  refine Finset.sum_congr rfl fun q _ => ?_
  rw [hL, hR, up_apply, up_apply, EReal.coe_mul]

section Product
variable {M K N : Nat} {φ₁ φ₂ : FTy}
open ValueIdx

/-- Rows times columns. -/
theorem up_matmul_nn (d : DotDims ⟨2, ![M, K]⟩ ⟨2, ![K, N]⟩ ⟨2, ![M, N]⟩) (hr : d.contr.rank = 1)
    (hs : d.contr.size ⟨0, by omega⟩ = K)
    (h0 : ∀ j q, (d.lhsIdx j q 0).val = (j 0).val) (h1 : ∀ j q, (d.lhsIdx j q 1).val = (q ⟨0, by omega⟩).val)
    (h2 : ∀ j q, (d.rhsIdx j q 0).val = (q ⟨0, by omega⟩).val) (h3 : ∀ j q, (d.rhsIdx j q 1).val = (j 1).val)
    (a : (⟨2, ![M, K]⟩ : Shape).Idx → ℝ) (b : (⟨2, ![K, N]⟩ : Shape).Idx → ℝ) :
    matmul d none (up a : FVec Ideal _ φ₁) (up b : FVec Ideal _ φ₂) (constant _ .f32 0x00000000#32)
      = up (fun j => ∑ k : Fin K, a (ix2 (j 0) k) * b (ix2 k (j 1))) :=
  up_matmul d K hr hs _ _ (fun j q => Shape.idx_ext₂ (h0 j q) (h1 j q)) (fun j q => Shape.idx_ext₂ (h2 j q) (h3 j q)) a b

/-- Rows times rows. -/
theorem up_matmul_nt (d : DotDims ⟨2, ![M, K]⟩ ⟨2, ![N, K]⟩ ⟨2, ![M, N]⟩) (hr : d.contr.rank = 1)
    (hs : d.contr.size ⟨0, by omega⟩ = K)
    (h0 : ∀ j q, (d.lhsIdx j q 0).val = (j 0).val) (h1 : ∀ j q, (d.lhsIdx j q 1).val = (q ⟨0, by omega⟩).val)
    (h2 : ∀ j q, (d.rhsIdx j q 0).val = (j 1).val) (h3 : ∀ j q, (d.rhsIdx j q 1).val = (q ⟨0, by omega⟩).val)
    (a : (⟨2, ![M, K]⟩ : Shape).Idx → ℝ) (b : (⟨2, ![N, K]⟩ : Shape).Idx → ℝ) :
    matmul d none (up a : FVec Ideal _ φ₁) (up b : FVec Ideal _ φ₂) (constant _ .f32 0x00000000#32)
      = up (fun j => ∑ k : Fin K, a (ix2 (j 0) k) * b (ix2 (j 1) k)) :=
  up_matmul d K hr hs _ _ (fun j q => Shape.idx_ext₂ (h0 j q) (h1 j q)) (fun j q => Shape.idx_ext₂ (h2 j q) (h3 j q)) a b

/-- Columns times columns. -/
theorem up_matmul_tn (d : DotDims ⟨2, ![K, M]⟩ ⟨2, ![K, N]⟩ ⟨2, ![M, N]⟩) (hr : d.contr.rank = 1)
    (hs : d.contr.size ⟨0, by omega⟩ = K)
    (h0 : ∀ j q, (d.lhsIdx j q 0).val = (q ⟨0, by omega⟩).val) (h1 : ∀ j q, (d.lhsIdx j q 1).val = (j 0).val)
    (h2 : ∀ j q, (d.rhsIdx j q 0).val = (q ⟨0, by omega⟩).val) (h3 : ∀ j q, (d.rhsIdx j q 1).val = (j 1).val)
    (a : (⟨2, ![K, M]⟩ : Shape).Idx → ℝ) (b : (⟨2, ![K, N]⟩ : Shape).Idx → ℝ) :
    matmul d none (up a : FVec Ideal _ φ₁) (up b : FVec Ideal _ φ₂) (constant _ .f32 0x00000000#32)
      = up (fun j => ∑ k : Fin K, a (ix2 k (j 0)) * b (ix2 k (j 1))) :=
  up_matmul d K hr hs _ _ (fun j q => Shape.idx_ext₂ (h0 j q) (h1 j q)) (fun j q => Shape.idx_ext₂ (h2 j q) (h3 j q)) a b

end Product

/-- A sum over `T * n` rows, taken `n` rows at a time. -/
theorem sum_blocks {β : Type*} [AddCommMonoid β] (T n N : Nat) (hN : T * n = N) (f : Fin N → β) :
    ∑ i : Fin N, f i = ∑ t : Fin T, ∑ p : Fin n, f ⟨n * t.val + p.val, by
      have := t.isLt; have := p.isLt
      calc n * t.val + p.val < n * t.val + n := by omega
        _ = n * (t.val + 1) := by ring
        _ ≤ n * T := Nat.mul_le_mul_left _ (by omega)
        _ = N := by rw [Nat.mul_comm, hN]⟩ := by
  subst hN
  rw [← Fintype.sum_prod_type', ← Equiv.sum_comp finProdFinEquiv]
  refine Finset.sum_congr rfl fun x _ => congrArg f (Fin.ext ?_)
  show x.2.val + n * x.1.val = n * x.1.val + x.2.val
  omega

end Cert.Lift

end
-- ==== Proof.MixMath.lean ====
/-
  The gradient of the chunked spatial gating over the extended reals, one chunk of 128 tokens at a time: the layer norm of
  a token, the cotangent of the mixed rows, and what a chunk adds to the gradients of the mixing weights, the biases and
  the layer norm's scale and shift.
-/
module

public import proofs.«01_k».proof.Proof.Lift

@[expose] public section

noncomputable section

namespace Cert.Mix

open Idealize.ShloMosaic Cert.Lift
open scoped BigOperators

/-- 1024, as the programs write it. -/
abbrev c1024 : EReal := Ideal.ofBits .f32 0x44800000#32
/-- The number under the square root. -/
abbrev cEps : EReal := Ideal.ofBits .f32 0x358637BD#32
/-- One. -/
abbrev cOne : EReal := Ideal.ofBits .f32 0x3F800000#32
/-- One half. -/
abbrev cHalf : EReal := Ideal.ofBits .f32 0x3F000000#32

theorem cOne_eq : cOne = ((1 : ℝ) : EReal) := lit_one
theorem cHalf_eq : cHalf = ((1 / 2 : ℝ) : EReal) := lit_half
theorem zero_eq : Ideal.ofBits .f32 0x00000000#32 = (0 : EReal) := lit_zero

/-- Lane `c` of group `g`. -/
def lane (g : Fin 8) (c : Fin 128) : Fin 1024 := ⟨128 * g.val + c.val, by omega⟩
/-- A lane's group. -/
def grp (q : Fin 1024) : Fin 8 := ⟨q.val / 128, by omega⟩
/-- Token `k` of chunk `n`. -/
def row (n : Fin 16) (k : Fin 128) : Fin 2048 := ⟨128 * n.val + k.val, by omega⟩

theorem grp_lane (g : Fin 8) (c : Fin 128) : grp (lane g c) = g := Fin.ext (by show (128 * g.val + c.val) / 128 = g.val; omega)

/-! ### A token -/

/-- The mean of a token. -/
def mean (v : Fin 1024 → EReal) : EReal := Ideal.div (∑ k, v k) c1024
/-- The token less its mean. -/
def cen (v : Fin 1024 → EReal) : Fin 1024 → EReal := fun j => v j - mean v
/-- The inverse deviation. -/
def dev (v : Fin 1024 → EReal) : EReal := Ideal.rsqrt (Ideal.div (∑ k, cen v k * cen v k) c1024 + cEps)
/-- The normalised token. -/
def hat (v : Fin 1024 → EReal) : Fin 1024 → EReal := fun j => cen v j * dev v
/-- The logistic function. -/
def lgs (x : EReal) : EReal := Ideal.div cOne (cOne + Ideal.exp (-x))
/-- The cotangent of a mixed entry: the entry's cotangent through the gate, times the other factor. -/
def dm (g d u : EReal) : EReal := d * (g * lgs g) * u

theorem dm_eq (g d u : EReal) : u * (d * (g * lgs g)) = dm g d u := mul_comm _ _

/-- The logistic function by the hyperbolic tangent of half the argument. -/
theorem half_tanh (x : EReal) : cHalf * (Ideal.tanh (cHalf * x) + cOne) = lgs x := by
  rw [lgs, cHalf_eq, cOne_eq]
  induction x with
  | bot =>
    rw [EReal.coe_mul_bot_of_pos (by norm_num)]
    show ((1 / 2 : ℝ) : EReal) * (-1 + ((1 : ℝ) : EReal)) = Ideal.div ((1 : ℝ) : EReal) (((1 : ℝ) : EReal) + Ideal.exp (- ⊥))
    rw [EReal.neg_bot]
    show ((1 / 2 : ℝ) : EReal) * (((-1 : ℝ) : EReal) + ((1 : ℝ) : EReal)) = Ideal.div ((1 : ℝ) : EReal) (((1 : ℝ) : EReal) + ⊤)
    rw [← EReal.coe_add, EReal.coe_add_top]
    simp [Ideal.div]
  | top =>
    rw [EReal.coe_mul_top_of_pos (by norm_num)]
    show ((1 / 2 : ℝ) : EReal) * (((1 : ℝ) : EReal) + ((1 : ℝ) : EReal)) = Ideal.div ((1 : ℝ) : EReal) (((1 : ℝ) : EReal) + Ideal.exp (- ⊤))
    rw [EReal.neg_top]
    show ((1 / 2 : ℝ) : EReal) * (((1 : ℝ) : EReal) + ((1 : ℝ) : EReal)) = Ideal.div ((1 : ℝ) : EReal) (((1 : ℝ) : EReal) + ((0 : ℝ) : EReal))
    rw [← EReal.coe_add, ← EReal.coe_add, ← EReal.coe_mul, div_coe (by norm_num)]
    norm_num
  | coe r =>
    rw [← EReal.coe_mul, ← EReal.coe_neg]
    show ((1 / 2 : ℝ) : EReal) * (((Real.tanh (1 / 2 * r) : ℝ) : EReal) + ((1 : ℝ) : EReal)) = Ideal.div ((1 : ℝ) : EReal) (((1 : ℝ) : EReal) + ((Real.exp (-r) : ℝ) : EReal))
    have hp : (1 : ℝ) + Real.exp (-r) ≠ 0 := by positivity
    rw [← EReal.coe_add, ← EReal.coe_add, ← EReal.coe_mul, div_coe hp]
    congr 1
    rw [Real.tanh_eq_sinh_div_cosh, Real.sinh_eq, Real.cosh_eq]
    have h1 : Real.exp (1 / 2 * r) ≠ 0 := (Real.exp_pos _).ne'
    have e : Real.exp (-r) = (Real.exp (1 / 2 * r))⁻¹ * (Real.exp (1 / 2 * r))⁻¹ := by
      rw [← Real.exp_neg, ← Real.exp_add]; congr 1; ring
    rw [e, Real.exp_neg]
    have h2 : Real.exp (1 / 2 * r) ^ 2 + 1 ≠ 0 := by positivity
    field_simp
    ring

/-! ### A chunk -/

/-- The cotangent of a lane of the normalised chunk: the masked mixing weights, transposed, times the mixed rows' cotangent. -/
def back (w : Fin 128 → Fin 128 → EReal) (D : Fin 128 → EReal) (i : Fin 128) : EReal := ∑ k, if i ≤ k then w k i * D k else 0
/-- What a chunk adds to the mixing weights' gradient. -/
def outer (D N : Fin 128 → Fin 128 → EReal) (t s : Fin 128) : EReal := if s ≤ t then ∑ c, D t c * N s c else 0

theorem back_mask (w : Fin 128 → Fin 128 → EReal) (D : Fin 128 → EReal) (i : Fin 128) :
    ∑ k, D k * (w k i * (if i ≤ k then cOne else 0)) = back w D i := by
  refine Finset.sum_congr rfl fun k _ => ?_
  by_cases h : i ≤ k
  · rw [if_pos h, if_pos h, cOne_eq, EReal.coe_one, mul_one, mul_comm]
  · rw [if_neg h, if_neg h, mul_zero, mul_zero]

/-- The mask passes through the sum over the chunks. -/
theorem outer_mask {ι : Type*} [Fintype ι] (D N : ι → Fin 128 → Fin 128 → EReal) (t s : Fin 128) :
    (∑ n, ∑ c, D n t c * N n s c) * (if s ≤ t then cOne else 0) = ∑ n, outer (D n) (N n) t s := by
  by_cases h : s ≤ t
  · simp only [outer, if_pos h]
    rw [cOne_eq, EReal.coe_one, mul_one]
  · simp only [outer, if_neg h, mul_zero, Finset.sum_const_zero]

/-- A sum over the tokens, chunk by chunk. -/
theorem sum_rows (f : Fin 2048 → EReal) : ∑ r, f r = ∑ n, ∑ k, f (row n k) := sum_blocks 16 128 2048 rfl f

end Cert.Mix

end
-- ==== Proof.MixBlock.lean ====
/-
  The body of `_mixer_bwd` on one chunk of 128 tokens: the values of one group of 128 lanes, read at an entry, are the
  functions of `MixMath`.
-/
module

public import proofs.«01_k».proof.Proof.MixMath
public import proofs.«01_k».proof.Proof.Gen.KernelIdeal.Skeleton
public import Idealize.ShloMosaic.Lib.Pipeline.ValueKit
public import Idealize.ShloMosaic.Lib.WordCmp

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open scoped BigOperators

/-- A choice by the order of two coordinates of a chunk. -/
theorem select_sge (t s : Fin 128) (x y : EReal) :
    Scalar.select (IntOp.cmpi .sge (BitVec.ofNat 32 t.val) (BitVec.ofNat 32 s.val)) x y = if s ≤ t then x else y := by
  rw [WordCmp.cmpi_sge_ofNat (by omega) (by omega), Scalar.select]
  by_cases h : s ≤ t
  · rw [if_pos h, decide_eq_true (show s.val ≤ t.val from h)]; rfl
  · rw [if_neg h, decide_eq_false (show ¬ s.val ≤ t.val from h)]; rfl

/-- A choice by the equality of a coordinate with a word. -/
theorem select_eq (l : Fin 128) (b : BitVec 32) (x y : EReal) :
    Scalar.select (IntOp.cmpi .eq (BitVec.ofNat 32 l.val) b) x y = if l.val = b.toNat then x else y := by
  have e : (BitVec.ofNat 32 l.val).toNat = l.val := by rw [BitVec.toNat_ofNat]; omega
  rw [WordCmp.cmpi_eq_eq_toNat, Scalar.select, e]
  by_cases h : l.val = b.toNat
  · rw [if_pos h, decide_eq_true h]; rfl
  · rw [if_neg h, decide_eq_false h]; rfl

/-- Row `p` of a matrix. -/
abbrev rowOf {n m : Nat} (v : (⟨2, ![n, m]⟩ : Shape).Idx → EReal) (p : Fin n) : Fin m → EReal := fun k => v (ix2 p k)

variable (a : FVec Ideal S2048x256 .bf16) (dy : FVec Ideal S2048x2048 .bf16)
  (v : FVec Ideal S128x1024 .f32) (lg lb : FVec Ideal S1x1024 .f32) (w acc : FVec Ideal S1x128x128 .f32)
  (g u d : FVec Ideal S128x128 .f32) (N : FVec Ideal S128x128 .bf16)

theorem pay20 (i : Fin 256) (j : Fin 2048) : k0_pay20 (F := Ideal) a dy (ix2 i j) = ∑ r, a (ix2 r i) * dy (ix2 r j) := by
  pointwise [k0_pay20]
  rfl

theorem pay98 (p : Fin 128) (j : Fin 1024) : k0_pay98 (F := Ideal) v (ix2 p j) = cen (rowOf v p) j := by
  pointwise [k0_pay98]
  rfl

theorem pay98' : k0_pay98 (F := Ideal) v = fun i => cen (rowOf v (fst i)) (snd i) :=
  funext fun i => (congrArg (k0_pay98 (F := Ideal) v) (eq_ix2 i)).trans (pay98 v _ _)

theorem pay99 (p : Fin 128) : k0_pay99 (F := Ideal) v (ix2 p 0) = dev (rowOf v p) := by
  pointwise [k0_pay99]
  rw [pay98']
  rfl

theorem pay99' : k0_pay99 (F := Ideal) v = fun i => dev (rowOf v (fst i)) :=
  funext fun i => (congrArg (k0_pay99 (F := Ideal) v) ((eq_ix2 i).trans (congrArg (ix2 (fst i)) (Subsingleton.elim (α := Fin 1) (snd i) 0)))).trans (pay99 v _)

/-- The normalised tokens. -/
theorem pay100 (p : Fin 128) (j : Fin 1024) : k0_pay100 (F := Ideal) v (ix2 p j) = hat (rowOf v p) j := by
  pointwise [k0_pay100]
  rw [pay98', pay99']
  rfl

theorem pay100' : k0_pay100 (F := Ideal) v = fun i => hat (rowOf v (fst i)) (snd i) :=
  funext fun i => (congrArg (k0_pay100 (F := Ideal) v) (eq_ix2 i)).trans (pay100 v _ _)

/-- The normalised tokens, scaled and shifted. -/
theorem pay102 (p : Fin 128) (j : Fin 1024) :
    k0_pay102 (F := Ideal) v lg lb (ix2 p j) = hat (rowOf v p) j * lg (ix2 0 j) + lb (ix2 0 j) := by
  pointwise [k0_pay102, k0_pay101]
  rw [pay100']
  rfl

/-- The cotangent of the mixed rows. -/
theorem pay115 (k c : Fin 128) : k0_pay115 (F := Ideal) u (k0_pay110 g d) (ix2 k c) = dm (g (ix2 k c)) (d (ix2 k c)) (u (ix2 k c)) := by
  pointwise [k0_pay115, k0_pay110, k0_pay109]
  rw [← EReal.coe_one, ← lit_one]
  exact congrArg (fun s => d (ix2 k c) * (g (ix2 k c) * s) * u (ix2 k c)) (half_tanh (g (ix2 k c)))

theorem pay115' : k0_pay115 (F := Ideal) u (k0_pay110 g d) = fun i => dm (g i) (d i) (u i) :=
  funext fun i => (congrArg (k0_pay115 (F := Ideal) u (k0_pay110 g d)) (eq_ix2 i)).trans ((pay115 g u d _ _).trans (congrArg (fun j => dm (g j) (d j) (u j)) (eq_ix2 i).symm))

theorem pay116' : k0_pay116 (F := Ideal) u (k0_pay110 g d) = fun i => dm (g i) (d i) (u i) := pay115' g u d

/-- The update of the mixing weights' gradient. -/
theorem pay117 (t s : Fin 128) :
    k0_pay117 (F := Ideal) k0_pay103 N u (k0_pay110 g d) acc (ix3 0 t s)
      = acc (ix3 0 t s) + outer (fun t c => dm (g (ix2 t c)) (d (ix2 t c)) (u (ix2 t c))) (fun s c => N (ix2 s c)) t s := by
  pointwise [k0_pay117, k0_pay103]
  rw [pay116']
  exact congrArg (acc (ix3 0 t s) + ·) (select_sge t s _ _)

/-- The cotangent of the normalised rows. -/
theorem pay119 (i c : Fin 128) :
    k0_pay119 (F := Ideal) (k0_pay106 k0_pay104 w) u (k0_pay110 g d) (ix2 i c)
      = back (fun k i => w (ix3 0 i k)) (fun k => dm (g (ix2 k c)) (d (ix2 k c)) (u (ix2 k c))) i := by
  pointwise [k0_pay119, k0_pay106, k0_pay104]
  rw [pay116']
  exact Finset.sum_congr rfl fun k _ => select_sge k i _ _

/-- The chunk's lanes, side by side. -/
theorem pay217 (T : Fin 8 → FVec Ideal S128x128 .f32) (i : Fin 128) (g : Fin 8) (c : Fin 128) :
    k0_pay217 (F := Ideal) (T 0) (T 1) (T 2) (T 3) (T 4) (T 5) (T 6) (T 7) (ix2 i (lane g c)) = T g (ix2 i c) := by
  have pick : ∀ (n : Fin 8) (x : Fin 128), 128 * g.val + c.val = 128 * n.val + x.val → T n (ix2 i x) = T g (ix2 i c) := by
    intro n x h
    obtain rfl : n = g := Fin.ext (by omega)
    obtain rfl : x = c := Fin.ext (by omega)
    rfl
  have e : ((ix2 i (lane g c)) 1).val = 128 * g.val + c.val := rfl
  pointwise [k0_pay217]
  by_cases h0 : ((ix2 i (lane g c)) 1).val < 128
  · rw [dif_pos h0]
    exact pick 0 _ (by show _ = 128 * 0 + (((ix2 i (lane g c)) 1).val); omega)
  rw [dif_neg h0]
  by_cases h1 : ((ix2 i (lane g c)) 1).val - 128 < 128
  · rw [dif_pos h1]
    exact pick 1 _ (by show _ = 128 * 1 + (((ix2 i (lane g c)) 1).val - 128); omega)
  rw [dif_neg h1]
  by_cases h2 : ((ix2 i (lane g c)) 1).val - 128 - 128 < 128
  · rw [dif_pos h2]
    exact pick 2 _ (by show _ = 128 * 2 + (((ix2 i (lane g c)) 1).val - 128 - 128); omega)
  rw [dif_neg h2]
  by_cases h3 : ((ix2 i (lane g c)) 1).val - 128 - 128 - 128 < 128
  · rw [dif_pos h3]
    exact pick 3 _ (by show _ = 128 * 3 + (((ix2 i (lane g c)) 1).val - 128 - 128 - 128); omega)
  rw [dif_neg h3]
  by_cases h4 : ((ix2 i (lane g c)) 1).val - 128 - 128 - 128 - 128 < 128
  · rw [dif_pos h4]
    exact pick 4 _ (by show _ = 128 * 4 + (((ix2 i (lane g c)) 1).val - 128 - 128 - 128 - 128); omega)
  rw [dif_neg h4]
  by_cases h5 : ((ix2 i (lane g c)) 1).val - 128 - 128 - 128 - 128 - 128 < 128
  · rw [dif_pos h5]
    exact pick 5 _ (by show _ = 128 * 5 + (((ix2 i (lane g c)) 1).val - 128 - 128 - 128 - 128 - 128); omega)
  rw [dif_neg h5]
  by_cases h6 : ((ix2 i (lane g c)) 1).val - 128 - 128 - 128 - 128 - 128 - 128 < 128
  · rw [dif_pos h6]
    exact pick 6 _ (by show _ = 128 * 6 + (((ix2 i (lane g c)) 1).val - 128 - 128 - 128 - 128 - 128 - 128); omega)
  rw [dif_neg h6]
  exact pick 7 _ (by show _ = 128 * 7 + (((ix2 i (lane g c)) 1).val - 128 - 128 - 128 - 128 - 128 - 128 - 128); omega)

variable (C : FVec Ideal S128x1024 .f32) (T : Fin 8 → FVec Ideal S128x128 .f32) (A : FVec Ideal S1x1024 .f32)

/-- The update of the scale's gradient. -/
theorem pay218 (q : Fin 1024) :
    k0_pay218 (F := Ideal) C (T 0) (T 1) (T 2) (T 3) (T 4) (T 5) (T 6) (T 7) A (ix2 0 q)
      = A (ix2 0 q) + ∑ i, k0_pay217 (F := Ideal) (T 0) (T 1) (T 2) (T 3) (T 4) (T 5) (T 6) (T 7) (ix2 i q) * C (ix2 i q) := by
  pointwise [k0_pay218]
  rfl

/-- The update of the shift's gradient. -/
theorem pay219 (q : Fin 1024) :
    k0_pay219 (F := Ideal) (T 0) (T 1) (T 2) (T 3) (T 4) (T 5) (T 6) (T 7) A (ix2 0 q)
      = A (ix2 0 q) + ∑ i, k0_pay217 (F := Ideal) (T 0) (T 1) (T 2) (T 3) (T 4) (T 5) (T 6) (T 7) (ix2 i q) := by
  pointwise [k0_pay219]
  rfl

variable (X : FVec Ideal S128x128 .f32)

/-- One group's bias column: the row sums, kept on the group's lane. -/
theorem pay118 (b : BitVec 32) (k l : Fin 128) :
    addf X (select (cmpi .eq (iota .tc S128x128 32 [1] iota_S128x128_d1_w32) (broadcast S128x128 b))
      (broadcastTo S128x128 (shapeCast S128x1 (shapeCast S128x1 (multiReduction (F := Ideal) .add [1] S128 (k0_pay115 u (k0_pay110 g d)) 0x00000000#32 reduces_S128x128_S128 (.inl rfl) rfl)
        shapeCasts_S128_S128x1) shapeCasts_S128x1_S128x1) broadcasts_S128x1_S128x128) (broadcast S128x128 (Scalar.ofBits (F := Ideal) .f32 0x00000000#32))) (ix2 k l)
      = X (ix2 k l) + if l.val = b.toNat then ∑ c, dm (g (ix2 k c)) (d (ix2 k c)) (u (ix2 k c)) else 0 := by
  pointwise
  rw [pay115']
  exact congrArg (X (ix2 k l) + ·) (select_eq l b _ _)

/-- The biases' gradient, transposed. -/
theorem pay5 (g : Fin 8) (k : Fin 128) : k0_pay5 (F := Ideal) X (ix2 g k) = X (ix2 k (⟨g.val, by omega⟩ : Fin 128)) := by
  pointwise [k0_pay5]
  rfl

end Cert.Mix

end
-- ==== Proof.MixRef.lean ====
/-
  The reference of `_mixer_bwd`'s parameter gradients: each stage of the two vjps read at an entry, in the functions of
  `MixMath`.
-/
module

public import proofs.«01_k».proof.Proof.MixMath
public import proofs.«01_k».proof.Proof.Gen.ReferenceIdeal.Read
public import Idealize.ShloMosaic.Lib.Pipeline.ValueKit
public import Idealize.ShloMosaic.Lib.TwoAxisContraction

@[expose] public section

set_option maxRecDepth 16384

noncomputable section

namespace Cert.Mix.Ref

open Idealize.ShloMosaic hiding ix0 ix1 ix2 ix3 ix4 ix5 eq_ix2 eq_ix3 eq_ix4
open Cert.ReferenceIdeal Cert.ReferenceIdeal.Read ValueIdx Cert.Lift
open scoped BigOperators

variable (z : FVec Ideal S2048x5376 .f32) (d : FVec Ideal S2048x2048 .f32) (lg lb : FVec Ideal S1024 .f32) (w : FVec Ideal S8x128x128 .f32)
  (a dy : FVec Ideal S2048x2048 .bf16)

/-- The rows the mixed rows multiply. -/
def U (r : Fin 2048) (q : Fin 1024) : EReal := z (ix2 r (⟨2304 + q.val, by omega⟩ : Fin 5376))
/-- The rows that are normalised and mixed. -/
def W (r : Fin 2048) (q : Fin 1024) : EReal := z (ix2 r (⟨3328 + q.val, by omega⟩ : Fin 5376))
/-- The gate's rows. -/
def G (r : Fin 2048) (q : Fin 1024) : EReal := z (ix2 r (⟨4352 + q.val, by omega⟩ : Fin 5376))
/-- The incoming cotangent. -/
def D (r : Fin 2048) (q : Fin 1024) : EReal := d (ix2 r (⟨1024 + q.val, by omega⟩ : Fin 2048))
/-- The mixed rows' cotangent. -/
def DM (r : Fin 2048) (q : Fin 1024) : EReal := dm (G z r q) (D d r q) (U z r q)
/-- The normalised rows. -/
def VH (r : Fin 2048) (q : Fin 1024) : EReal := hat (W z r) q
/-- The normalised rows, scaled and shifted. -/
def VN (r : Fin 2048) (q : Fin 1024) : EReal := VH z r q * lg (ix1 q) + lb (ix1 q)
/-- The cotangent of the normalised rows, scaled and shifted: row `i` of chunk `n`. -/
def DV (n : Fin 16) (i : Fin 128) (q : Fin 1024) : EReal := back (fun k i => w (ix3 (grp q) k i)) (fun k => DM z d (row n k) q) i

theorem ix4_congr {p n g c : Nat} {a a' : Fin p} {b b' : Fin n} {e e' : Fin g} {f f' : Fin c} (h0 : a = a') (h1 : b = b') (h2 : e = e') (h3 : f = f') :
    ix4 a b e f = ix4 a' b' e' f' := by rw [h0, h1, h2, h3]

theorem zero_add' {x : EReal} : (FloatOps.ofBits .f32 0x00000000#32 : Ideal .f32) + x = x := by
  rw [lit_zero, EReal.coe_zero, zero_add]

theorem v1 (r : Fin 2048) (q : Fin 1024) : val_main_v1 (F := Ideal) z (ix2 r q) = U z r q := by
  rw [val_main_v1_apply, val_main_v0_apply]
  exact congrArg z (eq_ix2 _)

theorem v2 (r : Fin 2048) (q : Fin 1024) : val_main_v2 (F := Ideal) z (ix2 r q) = W z r q := by
  rw [val_main_v2_apply, val_main_v0_apply]
  refine congrArg z ((eq_ix2 _).trans (congrArg (ix2 r) (Fin.ext ?_)))
  show 2304 + (1024 + q.val) = 3328 + q.val
  omega

theorem v3 (r : Fin 2048) (q : Fin 1024) : val_main_v3 (F := Ideal) z (ix2 r q) = G z r q := by
  rw [val_main_v3_apply, val_main_v0_apply]
  refine congrArg z ((eq_ix2 _).trans (congrArg (ix2 r) (Fin.ext ?_)))
  show 2304 + (2048 + q.val) = 4352 + q.val
  omega

/-! ### The layer norm -/

theorem v7 (r : Fin 2048) : val_main_v7 (F := Ideal) z (ix2 r 0) = mean (W z r) := by
  rw [val_main_v7_apply, val_main_v5_apply, val_main_v4_apply, val_main_cst_apply, zero_add', val_main_v6_apply]
  refine congrArg (fun s => Ideal.div s c1024) (Finset.sum_congr rfl fun k _ => ?_)
  rw [show idx_main_v4 (idx_main_v5 (ix2 r 0)) k = ix2 r k from eq_ix2 _, v2]

theorem v9 (r : Fin 2048) (q : Fin 1024) : val_main_v9 (F := Ideal) z (ix2 r q) = cen (W z r) q := by
  rw [val_main_v9_apply, v2, val_main_v8_apply, show idx_main_v8 (ix2 r q) = ix2 r 0 from eq_ix2 _, v7]
  rfl

theorem v16 (r : Fin 2048) (q : Fin 1024) : val_main_v16 (F := Ideal) z (ix2 r q) = cen (W z r) q := by
  rw [val_main_v16_apply, v2, val_main_v15_apply, show idx_main_v15 (ix2 r q) = ix2 r 0 from eq_ix2 _, v7]
  rfl

theorem v19 (r : Fin 2048) : val_main_v19 (F := Ideal) z (ix2 r 0) = dev (W z r) := by
  rw [val_main_v19_apply, val_main_v18_apply, val_main_v14_apply, val_main_v12_apply, val_main_v11_apply, val_main_cst_1_apply, zero_add',
    val_main_v13_apply, val_main_v17_apply]
  refine congrArg (fun s => Ideal.rsqrt (Ideal.div s c1024 + cEps)) (Finset.sum_congr rfl fun k _ => ?_)
  rw [val_main_v10_apply, show idx_main_v11 (idx_main_v12 (ix2 r 0)) k = ix2 r k from eq_ix2 _, v9]
  rfl

theorem v21 (r : Fin 2048) (q : Fin 1024) : val_main_v21 (F := Ideal) z (ix2 r q) = VH z r q := by
  rw [val_main_v21_apply, v16, val_main_v20_apply, show idx_main_v20 (ix2 r q) = ix2 r 0 from eq_ix2 _, v19]
  rfl

theorem v27 (r : Fin 2048) (q : Fin 1024) : val_main_v27 (F := Ideal) z lg lb (ix2 r q) = VN z lg lb r q := by
  rw [val_main_v27_apply, val_main_v24_apply, v21, val_main_v23_apply, val_main_v22_apply, val_main_v26_apply, val_main_v25_apply,
    show idx_main_v22 (idx_main_v23 (ix2 r q)) = ix1 q from ValueIdx.eq_ix1 _, show idx_main_v25 (idx_main_v26 (ix2 r q)) = ix1 q from ValueIdx.eq_ix1 _]
  rfl

/-- A chunk's token and a group's lane, in the array of four axes. -/
theorem pos_eq (n : Fin 16) (k : Fin 128) (g : Fin 8) (c : Fin 128) (h1 : (((n.val * 128 + k.val) * 8 + g.val) * 128 + c.val) / 1024 < 2048)
    (h2 : (((n.val * 128 + k.val) * 8 + g.val) * 128 + c.val) % 1024 < 1024) :
    ix2 (⟨(((n.val * 128 + k.val) * 8 + g.val) * 128 + c.val) / 1024, h1⟩ : Fin 2048) (⟨(((n.val * 128 + k.val) * 8 + g.val) * 128 + c.val) % 1024, h2⟩ : Fin 1024)
      = ix2 (row n k) (lane g c) := by
  refine congrArg₂ ix2 (Fin.ext ?_) (Fin.ext ?_)
  · show (((n.val * 128 + k.val) * 8 + g.val) * 128 + c.val) / 1024 = 128 * n.val + k.val
    omega
  · show (((n.val * 128 + k.val) * 8 + g.val) * 128 + c.val) % 1024 = 128 * g.val + c.val
    omega

theorem v28 (n : Fin 16) (k : Fin 128) (g : Fin 8) (c : Fin 128) : val_main_v28 (F := Ideal) z lg lb (ix4 n k g c) = VN z lg lb (row n k) (lane g c) := by
  rw [val_main_v28_apply]
  refine (congrArg (val_main_v27 (F := Ideal) z lg lb) ((eq_ix2 _).trans (pos_eq n k g c _ _))).trans (v27 ..)

/-! ### The mask -/

theorem v31 (g : Fin 1) (t s : Fin 128) : val_main_v31 (F := Ideal) (ix3 g t s) = if s ≤ t then cOne else 0 := by
  have cmp : IntOp.cmpi .sge (IntOp.addi (BitVec.ofNat 32 t.val) 0#32) (BitVec.ofNat 32 s.val) = (if s ≤ t then 1#1 else 0#1) := by
    revert t s; decide +kernel
  rw [val_main_v31_apply, val_main_v30_apply, val_main_call0_v4_apply, val_main_call0_v2_apply, val_main_call0_v0_apply, val_main_call0_v1_apply,
    val_main_call0_c_apply, val_main_call0_v3_apply, val_main_v29_apply, val_main_call0_v5_apply]
  show Scalar.select (IntOp.cmpi .sge (IntOp.addi (BitVec.ofNat 32 t.val) 0#32) (BitVec.ofNat 32 s.val)) cOne (Ideal.ofBits .f32 0x00000000#32) = _
  rw [cmp, zero_eq]
  by_cases h : s ≤ t
  · rw [if_pos h, if_pos h]; rfl
  · rw [if_neg h, if_neg h]; rfl

theorem v32 (g : Fin 8) (t s : Fin 128) : val_main_v32 (F := Ideal) (ix3 g t s) = if s ≤ t then cOne else 0 := by
  rw [val_main_v32_apply]
  exact (congrArg (val_main_v31 (F := Ideal)) (eq_ix3 _)).trans (v31 0 t s)

theorem v56 (g : Fin 8) (t s : Fin 128) : val_main_v56 (F := Ideal) (ix3 g t s) = if s ≤ t then cOne else 0 := by
  rw [val_main_v56_apply]
  exact (congrArg (val_main_v31 (F := Ideal)) (eq_ix3 _)).trans (v31 0 t s)

/-! ### The mixed rows' cotangent -/

theorem v46 (r : Fin 2048) (q : Fin 1024) : val_main_v46 (F := Ideal) z d (ix2 r q) = DM z d r q := by
  rw [val_main_v46_apply, v1, val_main_v45_apply, val_main_v44_apply, val_main_v42_apply, v3, val_main_call1_v5_apply, val_main_call1_v4_apply,
    val_main_call1_v3_apply, val_main_call1_v2_apply, val_main_call1_v1_apply, val_main_call1_v0_apply, v3,
    show idx_main_v44 (ix2 r q) = ix2 r (⟨1024 + q.val, by omega⟩ : Fin 2048) from eq_ix2 _]
  exact dm_eq _ _ _

theorem v47 (n : Fin 16) (k : Fin 128) (g : Fin 8) (c : Fin 128) : val_main_v47 (F := Ideal) z d (ix4 n k g c) = DM z d (row n k) (lane g c) := by
  rw [val_main_v47_apply]
  refine (congrArg (val_main_v46 (F := Ideal) z d) ((eq_ix2 _).trans (pos_eq n k g c _ _))).trans (v46 ..)

theorem v52 (g : Fin 8) (n : Fin 16) (c k : Fin 128) : val_main_v52 (F := Ideal) z d (ix4 g n c k) = DM z d (row n k) (lane g c) := by
  rw [val_main_v52_apply]
  exact (congrArg (val_main_v47 (F := Ideal) z d) (eq_ix4 _)).trans (v47 ..)

/-! ### The biases -/

/-- The sum over the first and the last of four axes. -/
theorem sum_outer {p n g c : Nat} (h : (⟨4, ![p, n, g, c]⟩ : Shape).ReducesTo [0, 3] ⟨2, ![n, g]⟩)
    (v : (⟨4, ![p, n, g, c]⟩ : Shape).Idx → EReal) (x : EReal) (j0 : Fin n) (j1 : Fin g) :
    Ideal.hostReduceAdd h v x (ix2 j0 j1) = x + ∑ a : Fin p, ∑ b : Fin c, v (ix4 a j0 j1 b) := by
  show x + ∑ i ∈ Finset.univ.filter (fun i => h.drop i = ix2 j0 j1), v i = _
  refine congrArg (x + ·) ?_
  refine (Finset.sum_filter_eq_sum_of_fiber _ (fun k : Fin p × Fin c => (ix4 k.1 j0 j1 k.2 : (⟨4, ![p, n, g, c]⟩ : Shape).Idx))
    (fun _ _ e => Prod.ext (congrFun e 0) (congrFun e 3)) (fun i => ?_) v).trans ?_
  · constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · simp only [Fintype.sum_prod_type]

theorem v48 (k : Fin 128) (g : Fin 8) : val_main_v48 (F := Ideal) z d (ix2 k g) = ∑ n, ∑ c, DM z d (row n k) (lane g c) := by
  unfold val_main_v48
  refine (sum_outer _ _ _ k g).trans ?_
  rw [val_main_cst_5_apply, zero_add']
  exact Finset.sum_congr rfl fun n _ => Finset.sum_congr rfl fun c _ => v47 ..

/-- The gradient of the biases. -/
theorem v51 (g : Fin 8) (k : Fin 128) : val_main_v51 (F := Ideal) z d (ix2 g k) = ∑ n, ∑ c, DM z d (row n k) (lane g c) := by
  rw [val_main_v51_apply, show idx_main_v51 (ix2 g k) = ix2 k g from eq_ix2 _]
  unfold val_main_v50
  refine (sum_outer _ _ _ k g).trans ?_
  rw [val_main_cst_6_apply, zero_add', Fin.sum_univ_one, Fin.sum_univ_one, val_main_v49_apply]
  refine (congrArg (val_main_v48 (F := Ideal) z d) ((eq_ix2 _).trans (congrArg₂ ix2 (Fin.ext ?_) (Fin.ext ?_)))).trans (v48 ..)
  · show (((0 * 128 + k.val) * 8 + g.val) * 1 + 0) / 8 = k.val
    omega
  · show (((0 * 128 + k.val) * 8 + g.val) * 1 + 0) % 8 = g.val
    omega

/-! ### The mixing weights -/

theorem v53 (g : Fin 8) (t s : Fin 128) : val_main_v53 (F := Ideal) z d lg lb (ix3 g t s)
    = ∑ n, ∑ c, DM z d (row n t) (lane g c) * VN z lg lb (row n s) (lane g c) := by
  unfold val_main_v53
  simp only [Host.dotGeneral]
  rw [Ideal.dotGeneral_apply, ValueIdx.sum_contr2 dot_S8x16x128x128_S16x128x8x128_S8x128x128_12_03_3_1_0_2 16 128 rfl rfl rfl]
  refine Finset.sum_congr rfl fun n _ => Finset.sum_congr rfl fun c _ => ?_
  have h0 := ValueIdx.contrEquiv2_symm_val0 dot_S8x16x128x128_S16x128x8x128_S8x128x128_12_03_3_1_0_2 16 128 rfl rfl rfl (n, c)
  have h1 := ValueIdx.contrEquiv2_symm_val1 dot_S8x16x128x128_S16x128x8x128_S8x128x128_12_03_3_1_0_2 16 128 rfl rfl rfl (n, c)
  generalize (ValueIdx.contrEquiv2 dot_S8x16x128x128_S16x128x8x128_S8x128x128_12_03_3_1_0_2 16 128 rfl rfl rfl).symm (n, c) = q at h0 h1 ⊢
  have el : dot_S8x16x128x128_S16x128x8x128_S8x128x128_12_03_3_1_0_2.lhsIdx (ix3 g t s) q = ix4 g n c t := by
    funext a
    apply Fin.ext
    match a with
    | ⟨0, _⟩ =>
      show (dot_S8x16x128x128_S16x128x8x128_S8x128x128_12_03_3_1_0_2.lhsIdx (ix3 g t s) q (0 : Fin S8x16x128x128.rank)).val = _
      unfold DotDims.lhsIdx
      rw [dif_pos (show (0 : Fin S8x16x128x128.rank) ∈ dot_S8x16x128x128_S16x128x8x128_S8x128x128_12_03_3_1_0_2.lhsBatch by decide)]
      rfl
    | ⟨1, _⟩ =>
      show (dot_S8x16x128x128_S16x128x8x128_S8x128x128_12_03_3_1_0_2.lhsIdx (ix3 g t s) q (1 : Fin S8x16x128x128.rank)).val = _
      unfold DotDims.lhsIdx
      rw [dif_neg (show ¬(1 : Fin S8x16x128x128.rank) ∈ dot_S8x16x128x128_S16x128x8x128_S8x128x128_12_03_3_1_0_2.lhsBatch by decide), dif_neg (show ¬(1 : Fin S8x16x128x128.rank) ∈ dot_S8x16x128x128_S16x128x8x128_S8x128x128_12_03_3_1_0_2.lhsNonContracting by decide)]
      exact h0
    | ⟨2, _⟩ =>
      show (dot_S8x16x128x128_S16x128x8x128_S8x128x128_12_03_3_1_0_2.lhsIdx (ix3 g t s) q (2 : Fin S8x16x128x128.rank)).val = _
      unfold DotDims.lhsIdx
      rw [dif_neg (show ¬(2 : Fin S8x16x128x128.rank) ∈ dot_S8x16x128x128_S16x128x8x128_S8x128x128_12_03_3_1_0_2.lhsBatch by decide), dif_neg (show ¬(2 : Fin S8x16x128x128.rank) ∈ dot_S8x16x128x128_S16x128x8x128_S8x128x128_12_03_3_1_0_2.lhsNonContracting by decide)]
      exact h1
    | ⟨3, _⟩ =>
      show (dot_S8x16x128x128_S16x128x8x128_S8x128x128_12_03_3_1_0_2.lhsIdx (ix3 g t s) q (3 : Fin S8x16x128x128.rank)).val = _
      unfold DotDims.lhsIdx
      rw [dif_neg (show ¬(3 : Fin S8x16x128x128.rank) ∈ dot_S8x16x128x128_S16x128x8x128_S8x128x128_12_03_3_1_0_2.lhsBatch by decide), dif_pos (show (3 : Fin S8x16x128x128.rank) ∈ dot_S8x16x128x128_S16x128x8x128_S8x128x128_12_03_3_1_0_2.lhsNonContracting by decide)]
      rfl
  have er : dot_S8x16x128x128_S16x128x8x128_S8x128x128_12_03_3_1_0_2.rhsIdx (ix3 g t s) q = ix4 n s g c := by
    funext a
    apply Fin.ext
    match a with
    | ⟨0, _⟩ =>
      show (dot_S8x16x128x128_S16x128x8x128_S8x128x128_12_03_3_1_0_2.rhsIdx (ix3 g t s) q (0 : Fin S16x128x8x128.rank)).val = _
      unfold DotDims.rhsIdx
      rw [dif_neg (show ¬(0 : Fin S16x128x8x128.rank) ∈ dot_S8x16x128x128_S16x128x8x128_S8x128x128_12_03_3_1_0_2.rhsBatch by decide), dif_neg (show ¬(0 : Fin S16x128x8x128.rank) ∈ dot_S8x16x128x128_S16x128x8x128_S8x128x128_12_03_3_1_0_2.rhsNonContracting by decide)]
      exact h0
    | ⟨1, _⟩ =>
      show (dot_S8x16x128x128_S16x128x8x128_S8x128x128_12_03_3_1_0_2.rhsIdx (ix3 g t s) q (1 : Fin S16x128x8x128.rank)).val = _
      unfold DotDims.rhsIdx
      rw [dif_neg (show ¬(1 : Fin S16x128x8x128.rank) ∈ dot_S8x16x128x128_S16x128x8x128_S8x128x128_12_03_3_1_0_2.rhsBatch by decide), dif_pos (show (1 : Fin S16x128x8x128.rank) ∈ dot_S8x16x128x128_S16x128x8x128_S8x128x128_12_03_3_1_0_2.rhsNonContracting by decide)]
      rfl
    | ⟨2, _⟩ =>
      show (dot_S8x16x128x128_S16x128x8x128_S8x128x128_12_03_3_1_0_2.rhsIdx (ix3 g t s) q (2 : Fin S16x128x8x128.rank)).val = _
      unfold DotDims.rhsIdx
      rw [dif_pos (show (2 : Fin S16x128x8x128.rank) ∈ dot_S8x16x128x128_S16x128x8x128_S8x128x128_12_03_3_1_0_2.rhsBatch by decide)]
      rfl
    | ⟨3, _⟩ =>
      show (dot_S8x16x128x128_S16x128x8x128_S8x128x128_12_03_3_1_0_2.rhsIdx (ix3 g t s) q (3 : Fin S16x128x8x128.rank)).val = _
      unfold DotDims.rhsIdx
      rw [dif_neg (show ¬(3 : Fin S16x128x8x128.rank) ∈ dot_S8x16x128x128_S16x128x8x128_S8x128x128_12_03_3_1_0_2.rhsBatch by decide), dif_neg (show ¬(3 : Fin S16x128x8x128.rank) ∈ dot_S8x16x128x128_S16x128x8x128_S8x128x128_12_03_3_1_0_2.rhsNonContracting by decide)]
      exact h1
  rw [el, er, v52, v28]

/-- The gradient of the mixing weights. -/
theorem v57 (g : Fin 8) (t s : Fin 128) : val_main_v57 (F := Ideal) z d lg lb (ix3 g t s)
    = ∑ n, outer (fun t c => DM z d (row n t) (lane g c)) (fun s c => VN z lg lb (row n s) (lane g c)) t s := by
  rw [val_main_v57_apply, v53, v56]
  exact outer_mask (fun n t c => DM z d (row n t) (lane g c)) (fun n s c => VN z lg lb (row n s) (lane g c)) t s

/-! ### The layer norm's scale and shift -/

theorem v54 (g : Fin 8) (n : Fin 16) (c i : Fin 128) : val_main_v54 (F := Ideal) z d w (ix4 g n c i) = DV z d w n i (lane g c) := by
  rw [val_main_v54_apply]
  refine (Finset.sum_congr rfl fun k _ => ?_).trans (back_mask (fun k i => w (ix3 (grp (lane g c)) k i)) (fun k => DM z d (row n k) (lane g c)) i)
  rw [show lidx_main_v54 (ix4 g n c i) k = ix4 g n c k from eq_ix4 _, show ridx_main_v54 (ix4 g n c i) k = ix3 g k i from eq_ix3 _, v52, val_main_v33_apply, v32,
    grp_lane]
  rfl

theorem v58 (n : Fin 16) (i : Fin 128) (q : Fin 1024) : val_main_v58 (F := Ideal) z d w (ix2 (row n i) q) = DV z d w n i q := by
  have hl : lane (grp q) (⟨q.val % 128, by omega⟩ : Fin 128) = q := Fin.ext (by show 128 * (q.val / 128) + q.val % 128 = q.val; omega)
  rw [val_main_v58_apply, val_main_v55_apply]
  refine (congrArg (val_main_v54 (F := Ideal) z d w) ((eq_ix4 _).trans (ix4_congr ?_ ?_ ?_ ?_))).trans ((v54 z d w (grp q) n ⟨q.val % 128, by omega⟩ i).trans (congrArg (DV z d w n i) hl))
  · refine Fin.ext ?_
    show ((128 * n.val + i.val) * 1024 + q.val) / 128 % 8 = q.val / 128
    omega
  · refine Fin.ext ?_
    show ((128 * n.val + i.val) * 1024 + q.val) / 131072 = n.val
    omega
  · refine Fin.ext ?_
    show ((128 * n.val + i.val) * 1024 + q.val) % 128 = q.val % 128
    omega
  · refine Fin.ext ?_
    show ((128 * n.val + i.val) * 1024 + q.val) / 1024 % 128 = i.val
    omega

/-- The gradient of the shift. -/
theorem v72 (q : Fin 1024) : val_main_v72 (F := Ideal) z d w (ix2 0 q) = ∑ n, ∑ i, DV z d w n i q := by
  rw [val_main_v72_apply, val_main_v61_apply, val_main_cst_8_apply, zero_add', Fin.sum_univ_one, val_main_v60_apply, val_main_v59_apply, val_main_cst_7_apply, zero_add',
    sum_rows]
  refine Finset.sum_congr rfl fun n _ => Finset.sum_congr rfl fun i _ => ?_
  refine (congrArg (val_main_v58 (F := Ideal) z d w) ((eq_ix2 _).trans (congrArg (ix2 (row n i)) (Fin.ext ?_)))).trans (v58 ..)
  simp

/-- The gradient of the scale. -/
theorem v71 (q : Fin 1024) : val_main_v71 (F := Ideal) z d w (ix2 0 q) = ∑ n, ∑ i, VH z (row n i) q * DV z d w n i q := by
  rw [val_main_v71_apply, val_main_v65_apply, val_main_cst_10_apply, zero_add', Fin.sum_univ_one, val_main_v64_apply, val_main_v63_apply, val_main_cst_9_apply, zero_add',
    sum_rows]
  refine Finset.sum_congr rfl fun n _ => Finset.sum_congr rfl fun i _ => ?_
  refine (congrArg (val_main_v62 (F := Ideal) z d w) ((eq_ix2 _).trans (congrArg (ix2 (row n i)) (Fin.ext (?_ : _ = q.val))))).trans ?_
  · simp
  · rw [val_main_v62_apply, v21, v58]
    rfl

/-! ### The output projection -/

/-- The gradient of the output projection. -/
theorem v73 (i j : Fin 2048) : val_main_v73 (F := Ideal) a dy (ix2 i j) = ∑ r, a (ix2 r i) * dy (ix2 r j) := by
  rw [val_main_v73_apply, val_main_v70_apply, val_main_v69_apply]
  refine Finset.sum_congr rfl fun r _ => ?_
  rw [show lidx_main_v69 (idx_main_v70 (ix2 i j)) r = ix2 r j from eq_ix2 _, show ridx_main_v69 (idx_main_v70 (ix2 i j)) r = ix2 r i from eq_ix2 _]
  exact mul_comm _ _

end Cert.Mix.Ref

end
-- ==== Proof.MixRead.lean ====
/-
  What the blocks of `_mixer_bwd` at a grid point hold: point `t` works on the two chunks of block `7 - t`, and on the
  columns of `a` of block `t`.
-/
module

public import proofs.«01_k».proof.Proof.MixBlock
public import proofs.«01_k».proof.Proof.MixRef
public import proofs.«01_k».proof.Proof.Gen.KernelIdeal.Value
public import Idealize.ShloMosaic.Lib.Pipeline.ValueKit
public import Idealize.ShloMosaic.Lib.ValueLayout
public import Idealize.ShloMosaic.Lib.Claim

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open Idealize.ShloMosaic.Pipeline (Dat)
open scoped BigOperators

/-- The windows' block indices. -/
theorem idx : ∀ t : Fin cfg0.N, win0_0.index t = ![7 - t.val, 0] ∧ win0_2.index t = ![7 - t.val, 0] ∧ win0_5.index t = ![0, 0]
    ∧ win0_6.index t = ![0, 0] ∧ win0_8.index t = ![0, 0, 0] ∧ win0_10.index t = ![0, t.val] ∧ win0_11.index t = ![0, 0]
    ∧ win0_18.index t = ![t.val, 0] ∧ t.val < 8 :=
  (by decide +kernel : ∀ t : Fin grid0.N, _)

theorem lt8 (t : Fin cfg0.N) : t.val < 8 := (idx t).2.2.2.2.2.2.2.2

/-- Chunk `s` of point `t`. -/
def chunk (t : Fin cfg0.N) (s : Fin 2) : Fin 16 := ⟨2 * (7 - t.val) + s.val, by have := lt8 t; omega⟩

variable (m : (ℓ : Loc nD τ sig) → Buf (Elt Ideal) ℓ) (c : Dev nD)

/-- The projected rows. -/
def argZ : FVec Ideal S2048x5376 .f32 := m ((c : Thread nD τ).loc main_arg0)
/-- The cotangent of the mixed activations. -/
def argD : FVec Ideal S2048x2048 .f32 := m ((c : Thread nD τ).loc main_arg1)
/-- The layer norm's scale. -/
def argG : FVec Ideal S1024 .f32 := m ((c : Thread nD τ).loc main_arg3)
/-- The layer norm's shift. -/
def argB : FVec Ideal S1024 .f32 := m ((c : Thread nD τ).loc main_arg4)
/-- The mixing weights. -/
def argW : FVec Ideal S8x128x128 .f32 := m ((c : Thread nD τ).loc main_arg5)
/-- The mixed activations. -/
def argA : FVec Ideal S2048x2048 .bf16 := m ((c : Thread nD τ).loc main_arg7)
/-- The cotangent of the output. -/
def argY : FVec Ideal S2048x2048 .bf16 := m ((c : Thread nD τ).loc main_arg9)

/-- The block of the projected rows. -/
abbrev bZ (t : Fin cfg0.N) : FVec Ideal S256x5376 .f32 := iblk m c 0 t
/-- The block of the cotangent. -/
abbrev bD (t : Fin cfg0.N) : FVec Ideal S256x2048 .f32 := iblk m c 2 t

theorem bZ_apply (t : Fin cfg0.N) (s : Fin 2) (p : Fin 256) (k : Fin 128) (j : Fin 5376) (h : p.val = 128 * s.val + k.val) :
    bZ m c t (ix2 p j) = argZ m c (ix2 (row (chunk t s) k) j) := by
  show V m c main_arg0 _ = _
  rw [V_main_arg0]
  unfold argZ row chunk
  have := lt8 t
  blk_ext [idx t]
  show (7 - t.val) * 256 + p.val = _
  omega

theorem bD_apply (t : Fin cfg0.N) (s : Fin 2) (p : Fin 256) (k : Fin 128) (j : Fin 2048) (h : p.val = 128 * s.val + k.val) :
    bD m c t (ix2 p j) = argD m c (ix2 (row (chunk t s) k) j) := by
  show V m c main_arg1 _ = _
  rw [V_main_arg1]
  unfold argD row chunk
  have := lt8 t
  blk_ext [idx t]
  show (7 - t.val) * 256 + p.val = _
  omega

theorem b5 (t : Fin cfg0.N) (q : Fin 1024) : (iblk m c 5 t : FVec Ideal S1x1024 .f32) (ix2 0 q) = argG m c (ix1 q) := by
  have e : V m c main_v63 = shapeCast _ (argG m c) shapeCasts_S1024_S1x1024 := by
    entry_read
    rfl
  show V m c main_v63 _ = _
  rw [e]
  refine (castRow_apply _ _ _).trans ?_
  refine congrArg (fun q : Fin 1024 => argG m c (ix1 q)) (Fin.ext ?_)
  show (((win0_5.blk t).view.emb (ix2 (0 : Fin 1) q)) 1).val = q.val
  blk_simp [idx t]
  rfl

theorem b6 (t : Fin cfg0.N) (q : Fin 1024) : (iblk m c 6 t : FVec Ideal S1x1024 .f32) (ix2 0 q) = argB m c (ix1 q) := by
  have e : V m c main_v64 = shapeCast _ (argB m c) shapeCasts_S1024_S1x1024 := by
    entry_read
    rfl
  show V m c main_v64 _ = _
  rw [e]
  refine (castRow_apply _ _ _).trans ?_
  refine congrArg (fun q : Fin 1024 => argB m c (ix1 q)) (Fin.ext ?_)
  show (((win0_6.blk t).view.emb (ix2 (0 : Fin 1) q)) 1).val = q.val
  blk_simp [idx t]
  rfl

theorem b8 (t : Fin cfg0.N) (g : Fin 8) (i k : Fin 128) : (iblk m c 8 t : FVec Ideal S8x128x128 .f32) (ix3 g i k) = argW m c (ix3 g k i) := by
  have e : V m c main_v65 = transpose S8x128x128 [0, 2, 1] (argW m c) transposes_S8x128x128_S8x128x128_0_2_1 := by
    entry_read
    rfl
  show V m c main_v65 _ = _
  rw [e]
  refine (congrArg (transpose S8x128x128 [0, 2, 1] (argW m c) transposes_S8x128x128_S8x128x128_0_2_1) (?_ : _ = ix3 g i k)).trans (ValueIdx.transpose_ix3_021_apply _ _ _ _ _)
  blk_ext [idx t]

theorem b10 (t : Fin cfg0.N) (r : Fin 2048) (i : Fin 256) :
    (iblk m c 10 t : FVec Ideal S2048x256 .bf16) (ix2 r i) = argA m c (ix2 r (⟨t.val * 256 + i.val, by have := lt8 t; omega⟩ : Fin 2048)) := by
  show V m c main_arg7 _ = _
  rw [V_main_arg7]
  unfold argA
  blk_ext [idx t]

theorem b11 (t : Fin cfg0.N) (r j : Fin 2048) : (iblk m c 11 t : FVec Ideal S2048x2048 .bf16) (ix2 r j) = argY m c (ix2 r j) := by
  show V m c main_arg9 _ = _
  rw [V_main_arg9]
  unfold argY
  blk_ext [idx t]

end Cert.Mix

end
-- ==== Proof.MixTile.lean ====
/-
  One chunk of `_mixer_bwd` at a grid point: its tiles of 128 tokens by 128 lanes, one per group of lanes, read at an entry,
  are the reference's cotangents of that chunk.
-/
module

public import proofs.«01_k».proof.Proof.MixRead

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open scoped BigOperators

/-! ### Tiles of the blocks -/

theorem inZ (s : Fin 2) (o : Nat) (h : o + 128 ≤ 5376) : ∀ a, (![128 * s.val, o] : Fin 2 → Nat) a + (![128, 128] : Fin 2 → Nat) a ≤ S256x5376.size a := fun a =>
  match a with
  | ⟨0, _⟩ => by show 128 * s.val + 128 ≤ 256; omega
  | ⟨1, _⟩ => h

theorem inD (s : Fin 2) (o : Nat) (h : o + 128 ≤ 2048) : ∀ a, (![128 * s.val, o] : Fin 2 → Nat) a + (![128, 128] : Fin 2 → Nat) a ≤ S256x2048.size a := fun a =>
  match a with
  | ⟨0, _⟩ => by show 128 * s.val + 128 ≤ 256; omega
  | ⟨1, _⟩ => h

theorem inV (s : Fin 2) : ∀ a, (![128 * s.val, 3328] : Fin 2 → Nat) a + (![128, 1024] : Fin 2 → Nat) a ≤ S256x5376.size a := fun a =>
  match a with
  | ⟨0, _⟩ => by show 128 * s.val + 128 ≤ 256; omega
  | ⟨1, _⟩ => (by decide : 3328 + 1024 ≤ 5376)

theorem inW (g : Fin 8) : ∀ a, (![g.val, 0, 0] : Fin 3 → Nat) a + (![1, 128, 128] : Fin 3 → Nat) a ≤ S8x128x128.size a := fun a =>
  match a with
  | ⟨0, _⟩ => by show g.val + 1 ≤ 8; omega
  | ⟨1, _⟩ => (by decide : 0 + 128 ≤ 128)
  | ⟨2, _⟩ => (by decide : 0 + 128 ≤ 128)

/-- A tile of a matrix, read at an entry. -/
theorem ld2 {e : EltTy} {M N a b : Nat} (X : (⟨2, ![M, N]⟩ : Shape).Idx → Elt Ideal e) {r o : Nat}
    (inb : ∀ x, (![r, o] : Fin 2 → Nat) x + (![a, b] : Fin 2 → Nat) x ≤ (⟨2, ![M, N]⟩ : Shape).size x)
    (k : Fin a) (l : Fin b) (p : Fin M) (j : Fin N) (hp : p.val = r + k.val) (hj : j.val = o + l.val) :
    View.ld (Val := Elt Ideal) X (Rect.unit (s := ⟨2, ![M, N]⟩) ![r, o] ![a, b] inb) (ix2 k l) = X (ix2 p j) :=
  View.ld_unit_apply_of X ![r, o] ![a, b] inb (ix2 k l) (ix2 p j) fun x => match x with | ⟨0, _⟩ => hp | ⟨1, _⟩ => hj

/-- A group of an array of three axes, read at an entry. -/
theorem ld3 {e : EltTy} {M a b : Nat} (X : (⟨3, ![M, a, b]⟩ : Shape).Idx → Elt Ideal e) (g : Fin M)
    (inb : ∀ x, (![g.val, 0, 0] : Fin 3 → Nat) x + (![1, a, b] : Fin 3 → Nat) x ≤ (⟨3, ![M, a, b]⟩ : Shape).size x) (k : Fin a) (l : Fin b) :
    View.ld (Val := Elt Ideal) X (Rect.unit (s := ⟨3, ![M, a, b]⟩) ![g.val, 0, 0] ![1, a, b] inb) (ix3 0 k l) = X (ix3 g k l) :=
  View.ld_unit_apply_of X ![g.val, 0, 0] ![1, a, b] inb (ix3 0 k l) (ix3 g k l) fun x =>
    match x with | ⟨0, _⟩ => rfl | ⟨1, _⟩ => (Nat.zero_add _).symm | ⟨2, _⟩ => (Nat.zero_add _).symm

variable (m : (ℓ : Loc nD τ sig) → Buf (Elt Ideal) ℓ) (c : Dev nD) (t : Fin cfg0.N) (s : Fin 2)

/-- The gate's tile. -/
def tG (g : Fin 8) : FVec Ideal S128x128 .f32 :=
  View.ld (iblk m c 0 t) (Rect.unit ![128 * s.val, 4352 + 128 * g.val] ![128, 128] (inZ s _ (by omega)))
/-- The other factor's tile. -/
def tU (g : Fin 8) : FVec Ideal S128x128 .f32 :=
  View.ld (iblk m c 0 t) (Rect.unit ![128 * s.val, 2304 + 128 * g.val] ![128, 128] (inZ s _ (by omega)))
/-- The cotangent's tile. -/
def tD (g : Fin 8) : FVec Ideal S128x128 .f32 :=
  View.ld (iblk m c 2 t) (Rect.unit ![128 * s.val, 1024 + 128 * g.val] ![128, 128] (inD s _ (by omega)))
/-- The rows that are normalised. -/
def tV : FVec Ideal S128x1024 .f32 :=
  View.ld (iblk m c 0 t) (Rect.unit ![128 * s.val, 3328] ![128, 1024] (inV s))
/-- A group's weights. -/
def tW (g : Fin 8) : FVec Ideal S1x128x128 .f32 :=
  View.ld (iblk m c 8 t) (Rect.unit ![g.val, 0, 0] ![1, 128, 128] (inW g))

theorem tG_apply (g : Fin 8) (k l : Fin 128) : tG m c t s g (ix2 k l) = Ref.G (argZ m c) (row (chunk t s) k) (lane g l) :=
  (ld2 (e := .f32) (M := 256) (N := 5376) (bZ m c t) _ k l (⟨128 * s.val + k.val, by omega⟩ : Fin 256) (⟨4352 + (128 * g.val + l.val), by omega⟩ : Fin 5376) rfl (Nat.add_assoc _ _ _).symm).trans
    (bZ_apply m c t s _ k _ rfl)

theorem tU_apply (g : Fin 8) (k l : Fin 128) : tU m c t s g (ix2 k l) = Ref.U (argZ m c) (row (chunk t s) k) (lane g l) :=
  (ld2 (e := .f32) (M := 256) (N := 5376) (bZ m c t) _ k l (⟨128 * s.val + k.val, by omega⟩ : Fin 256) (⟨2304 + (128 * g.val + l.val), by omega⟩ : Fin 5376) rfl (Nat.add_assoc _ _ _).symm).trans
    (bZ_apply m c t s _ k _ rfl)

theorem tD_apply (g : Fin 8) (k l : Fin 128) : tD m c t s g (ix2 k l) = Ref.D (argD m c) (row (chunk t s) k) (lane g l) :=
  (ld2 (e := .f32) (M := 256) (N := 2048) (bD m c t) _ k l (⟨128 * s.val + k.val, by omega⟩ : Fin 256) (⟨1024 + (128 * g.val + l.val), by omega⟩ : Fin 2048) rfl (Nat.add_assoc _ _ _).symm).trans
    (bD_apply m c t s _ k _ rfl)

theorem tV_apply (k : Fin 128) (q : Fin 1024) : tV m c t s (ix2 k q) = Ref.W (argZ m c) (row (chunk t s) k) q :=
  (ld2 (e := .f32) (M := 256) (N := 5376) (bZ m c t) _ k q (⟨128 * s.val + k.val, by omega⟩ : Fin 256) (⟨3328 + q.val, by omega⟩ : Fin 5376) rfl rfl).trans
    (bZ_apply m c t s _ k _ rfl)

theorem tW_apply (g : Fin 8) (i k : Fin 128) : tW m c t g (ix3 0 i k) = argW m c (ix3 g k i) :=
  (ld3 (iblk m c 8 t : FVec Ideal S8x128x128 .f32) g _ i k).trans (b8 m c t g i k)

/-- The mixed rows' cotangent on a tile. -/
theorem dm_apply (g : Fin 8) (k l : Fin 128) :
    dm (tG m c t s g (ix2 k l)) (tD m c t s g (ix2 k l)) (tU m c t s g (ix2 k l)) = Ref.DM (argZ m c) (argD m c) (row (chunk t s) k) (lane g l) := by
  rw [tG_apply, tD_apply, tU_apply]
  rfl

/-! ### The chunk's lanes -/

/-- The tile of the normalised rows' cotangent. -/
def tile (g : Fin 8) : FVec Ideal S128x128 .f32 :=
  k0_pay119 (F := Ideal) (k0_pay106 k0_pay104 (tW m c t g)) (tU m c t s g) (k0_pay110 (tG m c t s g) (tD m c t s g))

theorem tile_apply (g : Fin 8) (i l : Fin 128) :
    tile m c t s g (ix2 i l) = Ref.DV (argZ m c) (argD m c) (argW m c) (chunk t s) i (lane g l) := by
  rw [tile, pay119, Ref.DV, grp_lane]
  exact congrArg₂ (fun w D => back w D i) (funext fun k => funext fun i => tW_apply m c t g i k) (funext fun k => dm_apply m c t s g k l)

/-- The tiles side by side. -/
def lines (T : Fin 8 → FVec Ideal S128x128 .f32) : FVec Ideal S128x1024 .f32 :=
  k0_pay217 (F := Ideal) (T 0) (T 1) (T 2) (T 3) (T 4) (T 5) (T 6) (T 7)

theorem lane_grp (q : Fin 1024) : q = lane (grp q) (⟨q.val % 128, by omega⟩ : Fin 128) := Fin.ext (by show q.val = 128 * (q.val / 128) + q.val % 128; omega)

theorem lines_apply (i : Fin 128) (q : Fin 1024) :
    lines (tile m c t s) (ix2 i q) = Ref.DV (argZ m c) (argD m c) (argW m c) (chunk t s) i q := by
  conv_lhs => rw [lane_grp q]
  refine (pay217 (tile m c t s) i (grp q) _).trans ((tile_apply m c t s _ _ _).trans ?_)
  rw [← lane_grp q]

/-- The normalised rows. -/
theorem hat_apply (i : Fin 128) (q : Fin 1024) : k0_pay100 (F := Ideal) (tV m c t s) (ix2 i q) = Ref.VH (argZ m c) (row (chunk t s) i) q := by
  rw [pay100]
  exact congrFun (congrArg hat (funext fun k => tV_apply m c t s i k)) q

/-- The normalised rows, scaled and shifted. -/
theorem vn_apply (i : Fin 128) (q : Fin 1024) :
    k0_pay102 (F := Ideal) (tV m c t s) (iblk m c 5 t) (iblk m c 6 t) (ix2 i q)
      = Ref.VN (argZ m c) (argG m c) (argB m c) (row (chunk t s) i) q := by
  rw [pay102, b5, b6]
  exact congrArg (fun h => h * argG m c (ix1 q) + argB m c (ix1 q)) (congrFun (congrArg hat (funext fun k => tV_apply m c t s i k)) q)

/-! ### The rows of sums -/

variable (C L : FVec Ideal S128x1024 .f32) (A : FVec Ideal S1x1024 .f32)

/-- A row plus the sums of a chunk's columns. -/
theorem pay1 (q : Fin 1024) : k0_pay1 (F := Ideal) L A (ix2 0 q) = A (ix2 0 q) + ∑ i, L (ix2 i q) := by
  pointwise [k0_pay1]
  rfl

/-- The row of a product. -/
def prod : FVec Ideal S128x1024 .f32 := fun i => L i * C i

/-- The two chunks' update of a row. -/
theorem two (L0 L1 : FVec Ideal S128x1024 .f32) (q : Fin 1024) :
    k0_pay1 (F := Ideal) L0 (k0_pay1 L1 A) (ix2 0 q) = A (ix2 0 q) + (∑ i, L1 (ix2 i q) + ∑ i, L0 (ix2 i q)) := by
  rw [pay1, pay1, add_assoc]

end Cert.Mix

end
-- ==== Proof.MixSums.lean ====
/-
  Three results of `_mixer_bwd`: the layer norm's scale and shift, whose rows gather the chunks point by point, and the
  output projection, a block of rows per point.
-/
module

public import proofs.«01_k».proof.Proof.MixTile

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open Idealize.ShloMosaic.Pipeline (Dat)
open scoped BigOperators

/-- The points' pairs of chunks are all chunks. -/
theorem sum_chunks (f : Fin 16 → EReal) : ∑ t : Fin cfg0.N, (f (chunk t 1) + f (chunk t 0)) = ∑ n, f n := by
  have hb : Function.Bijective fun p : Fin cfg0.N × Fin 2 => chunk p.1 p.2 := by
    constructor
    · rintro ⟨t, s⟩ ⟨t', s'⟩ h
      have e : 2 * (7 - t.val) + s.val = 2 * (7 - t'.val) + s'.val := congrArg Fin.val h
      have := lt8 t
      have := lt8 t'
      exact Prod.ext (Fin.ext (by show t.val = t'.val; omega)) (Fin.ext (by show s.val = s'.val; omega))
    · intro n
      have hN : cfg0.N = 8 := N_0
      exact ⟨(⟨7 - n.val / 2, by omega⟩, ⟨n.val % 2, by omega⟩), Fin.ext (by show 2 * (7 - (7 - n.val / 2)) + n.val % 2 = n.val; omega)⟩
  rw [← Fintype.sum_bijective _ hb (fun p => f (chunk p.1 p.2)) f fun _ => rfl, Fintype.sum_prod_type]
  refine Finset.sum_congr rfl fun t _ => ?_
  rw [Fin.sum_univ_two, add_comm]

variable (m : (ℓ : Loc nD τ sig) → Buf (Elt Ideal) ℓ) (c : Dev nD)

theorem zero18 (j : S1x1024.Idx) : k0_pay18 (F := Ideal) j = 0 := by pointwise [k0_pay18]
theorem zero19 (j : S1x1024.Idx) : k0_pay19 (F := Ideal) j = 0 := by pointwise [k0_pay19]

theorem row0 (j : S1x1024.Idx) : j = ix2 0 (snd j) := (eq_ix2 j).trans (congrArg (ix2 · (snd j)) (Subsingleton.elim (α := Fin 1) (fst j) 0))

/-! ### The shift -/

/-- What a chunk adds to the shift's gradient. -/
def sB (n : Fin 16) (q : Fin 1024) : EReal := ∑ i, Ref.DV (argZ m c) (argD m c) (argW m c) n i q

theorem step17 (t : Fin cfg0.N) (A : FVec Ideal S1x1024 .f32) (j : S1x1024.Idx) :
    k0_pay1 (F := Ideal) (lines (tile m c t 0)) (k0_pay1 (lines (tile m c t 1)) A) j
      = A j + (sB m c (chunk t 1) (snd j) + sB m c (chunk t 0) (snd j)) := by
  rw [row0 j]
  refine (two _ _ _ _).trans (congrArg (A (ix2 0 (snd j)) + ·) (congrArg₂ (· + ·) ?_ ?_)) <;>
    exact Finset.sum_congr rfl fun i _ => lines_apply m c t _ i _

theorem out17_A (t : Fin cfg0.N) (h0 : t.val % 8 = 0) (h1 : ¬ t.val % 8 = 7) :
    (outsAt0 m c t.val t.isLt).2.2.2.2.2.1 = k0_pay1 (F := Ideal) (lines (tile m c t 0)) (k0_pay1 (lines (tile m c t 1)) (k0_pay19 (F := Ideal))) := by
  rw [outsAt0_A m c t h0 h1]
  frame_out
  rfl

theorem out17_B (t : Fin cfg0.N) (h0 : ¬ t.val % 8 = 0) (h1 : ¬ t.val % 8 = 7) :
    (outsAt0 m c t.val t.isLt).2.2.2.2.2.1 = k0_pay1 (F := Ideal) (lines (tile m c t 0)) (k0_pay1 (lines (tile m c t 1)) (outsAt0 m c (t.val - 1) (Nat.lt_of_le_of_lt (Nat.sub_le _ _) t.isLt)).2.2.2.2.2.1) := by
  rw [outsAt0_B m c t h0 h1]
  frame_out
  rfl

theorem out17_C (t : Fin cfg0.N) (h0 : ¬ t.val % 8 = 0) (h1 : t.val % 8 = 7) :
    (outsAt0 m c t.val t.isLt).2.2.2.2.2.1 = k0_pay1 (F := Ideal) (lines (tile m c t 0)) (k0_pay1 (lines (tile m c t 1)) (outsAt0 m c (t.val - 1) (Nat.lt_of_le_of_lt (Nat.sub_le _ _) t.isLt)).2.2.2.2.2.1) := by
  rw [outsAt0_C m c t h0 h1]
  frame_out
  rfl

theorem final17 : (dats m 0 c).arrAt 17 cfg0.N = fun j : S1x1024.Idx => ∑ n, sB m c n (snd j) := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.1) 8 (fun _ => (0 : EReal))
    (fun t j => sB m c (chunk t 1) (snd j) + sB m c (chunk t 0) (snd j))
    (fun t h j => by
      show (outsAt0 m c t.val t.isLt).2.2.2.2.2.1 j = _
      rw [out17_A m c t h (by omega), step17, zero19])
    (fun t h j => by
      show (outsAt0 m c t.val t.isLt).2.2.2.2.2.1 j = _
      by_cases h1 : t.val % 8 = 7
      · rw [out17_C m c t h h1, step17]
      · rw [out17_B m c t h h1, step17]) (le_of_eq N_0) t0_7 rfl j, zero_add]
  exact sum_chunks fun n => sB m c n (snd j)

/-! ### The scale -/

/-- What a chunk adds to the scale's gradient. -/
def sG (n : Fin 16) (q : Fin 1024) : EReal := ∑ i, Ref.VH (argZ m c) (row n i) q * Ref.DV (argZ m c) (argD m c) (argW m c) n i q

theorem step16 (t : Fin cfg0.N) (A : FVec Ideal S1x1024 .f32) (j : S1x1024.Idx) :
    k0_pay1 (F := Ideal) (prod (k0_pay100 (tV m c t 0)) (lines (tile m c t 0))) (k0_pay1 (prod (k0_pay100 (tV m c t 1)) (lines (tile m c t 1))) A) j
      = A j + (sG m c (chunk t 1) (snd j) + sG m c (chunk t 0) (snd j)) := by
  rw [row0 j]
  refine (two _ _ _ _).trans (congrArg (A (ix2 0 (snd j)) + ·) (congrArg₂ (· + ·) ?_ ?_)) <;>
    exact Finset.sum_congr rfl fun i _ => (mul_comm _ _).trans (congrArg₂ (· * ·) (hat_apply m c t _ i _) (lines_apply m c t _ i _))

theorem out16_A (t : Fin cfg0.N) (h0 : t.val % 8 = 0) (h1 : ¬ t.val % 8 = 7) :
    (outsAt0 m c t.val t.isLt).2.2.2.2.1 = k0_pay1 (F := Ideal) (prod (k0_pay100 (tV m c t 0)) (lines (tile m c t 0))) (k0_pay1 (prod (k0_pay100 (tV m c t 1)) (lines (tile m c t 1))) (k0_pay18 (F := Ideal))) := by
  rw [outsAt0_A m c t h0 h1]
  frame_out
  rfl

theorem out16_B (t : Fin cfg0.N) (h0 : ¬ t.val % 8 = 0) (h1 : ¬ t.val % 8 = 7) :
    (outsAt0 m c t.val t.isLt).2.2.2.2.1 = k0_pay1 (F := Ideal) (prod (k0_pay100 (tV m c t 0)) (lines (tile m c t 0))) (k0_pay1 (prod (k0_pay100 (tV m c t 1)) (lines (tile m c t 1))) (outsAt0 m c (t.val - 1) (Nat.lt_of_le_of_lt (Nat.sub_le _ _) t.isLt)).2.2.2.2.1) := by
  rw [outsAt0_B m c t h0 h1]
  frame_out
  rfl

theorem out16_C (t : Fin cfg0.N) (h0 : ¬ t.val % 8 = 0) (h1 : t.val % 8 = 7) :
    (outsAt0 m c t.val t.isLt).2.2.2.2.1 = k0_pay1 (F := Ideal) (prod (k0_pay100 (tV m c t 0)) (lines (tile m c t 0))) (k0_pay1 (prod (k0_pay100 (tV m c t 1)) (lines (tile m c t 1))) (outsAt0 m c (t.val - 1) (Nat.lt_of_le_of_lt (Nat.sub_le _ _) t.isLt)).2.2.2.2.1) := by
  rw [outsAt0_C m c t h0 h1]
  frame_out
  rfl

theorem final16 : (dats m 0 c).arrAt 16 cfg0.N = fun j : S1x1024.Idx => ∑ n, sG m c n (snd j) := by
  refine (dats m 0 c).arrAt_eq_of_after_last 16 t0_7 (by decide +kernel) _ fun j => ?_
  blk_simp
  rw [after0_16, Pipeline.eq_sum_fin_of_reset_step_apply_last (fun n h => (outsAt0 m c n h).2.2.2.2.1) 8 (fun _ => (0 : EReal))
    (fun t j => sG m c (chunk t 1) (snd j) + sG m c (chunk t 0) (snd j))
    (fun t h j => by
      show (outsAt0 m c t.val t.isLt).2.2.2.2.1 j = _
      rw [out16_A m c t h (by omega), step16, zero18])
    (fun t h j => by
      show (outsAt0 m c t.val t.isLt).2.2.2.2.1 j = _
      by_cases h1 : t.val % 8 = 7
      · rw [out16_C m c t h h1, step16]
      · rw [out16_B m c t h h1, step16]) (le_of_eq N_0) t0_7 rfl j, zero_add]
  exact sum_chunks fun n => sG m c n (snd j)

/-! ### The output projection -/

theorem out18 (t : Fin cfg0.N) : (outsAt0 m c t.val t.isLt).2.2.2.2.2.2.1 = k0_pay20 (F := Ideal) (iblk m c 10 t) (iblk m c 11 t) := by
  by_cases h0 : t.val % 8 = 0
  · rw [outsAt0_A m c t h0 (by omega)]
    frame_out
  · by_cases h1 : t.val % 8 = 7
    · rw [outsAt0_C m c t h0 h1]
      frame_out
    · rw [outsAt0_B m c t h0 h1]
      frame_out

/-- The output projection's gradient. -/
def wOut (i j : Fin 2048) : EReal := ∑ r, argA m c (ix2 r i) * argY m c (ix2 r j)

theorem final18 : (dats m 0 c).arrAt 18 cfg0.N = fun j : S2048x2048.Idx => wOut m c (fst j) (snd j) := by
  refine (dats m 0 c).arrAt_eq_of_covers 18 _ (by decide +kernel) fun t _ y => ?_
  blk_simp
  rw [after0_18, out18]
  refine (congrArg (k0_pay20 (F := Ideal) (iblk m c 10 t) (iblk m c 11 t)) (eq_ix2 y)).trans ((pay20 _ _ _ _).trans
    (Eq.trans (b := wOut m c (⟨t.val * 256 + (fst y).val, by have := lt8 t; have := (fst y : Fin 256).isLt; omega⟩ : Fin 2048) (snd y))
      (Finset.sum_congr rfl fun r _ => congrArg₂ (· * ·) (b10 m c t r _) (b11 m c t r _)) ?_))
  refine congrArg₂ (wOut m c) (Fin.ext ?_) (Fin.ext ?_)
  · show t.val * 256 + (fst y).val = (((win0_18.blk t).view.emb y) 0).val
    blk_simp [idx t]
  · show (snd y).val = (((win0_18.blk t).view.emb y) 1).val
    blk_simp [idx t]

end Cert.Mix

end
-- ==== Proof.MixBias.lean ====
/-
  The gradient of the mixing biases: every point adds the row sums of its two chunks' cotangents, one lane per group, to a
  running array, which the last point turns into the result.
-/
module

public import proofs.«01_k».proof.Proof.MixSums

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open Idealize.ShloMosaic.Pipeline (Dat)
open scoped BigOperators

variable (m : (ℓ : Loc nD τ sig) → Buf (Elt Ideal) ℓ) (c : Dev nD) (t : Fin cfg0.N) (s : Fin 2)

/-- The chunk's columns, with group `b`'s row sums added on lane `b`. -/
def col (X : FVec Ideal S128x128 .f32) (b : BitVec 32) (g : Fin 8) : FVec Ideal S128x128 .f32 :=
  addf X (select (cmpi .eq (iota .tc S128x128 32 [1] iota_S128x128_d1_w32) (broadcast S128x128 b))
    (broadcastTo S128x128 (shapeCast S128x1 (shapeCast S128x1 (multiReduction (F := Ideal) .add [1] S128 (k0_pay115 (tU m c t s g) (k0_pay110 (tG m c t s g) (tD m c t s g))) 0x00000000#32 reduces_S128x128_S128 (.inl rfl) rfl)
      shapeCasts_S128_S128x1) shapeCasts_S128x1_S128x1) broadcasts_S128x1_S128x128) (broadcast S128x128 (Scalar.ofBits (F := Ideal) .f32 0x00000000#32)))

/-- A group's row sum on a chunk. -/
def sumB (n : Fin 16) (g : Fin 8) (k : Fin 128) : EReal := ∑ l, Ref.DM (argZ m c) (argD m c) (row n k) (lane g l)

theorem col_apply (X : FVec Ideal S128x128 .f32) (b : BitVec 32) (g : Fin 8) (k l : Fin 128) :
    col m c t s X b g (ix2 k l) = X (ix2 k l) + if l.val = b.toNat then sumB m c (chunk t s) g k else 0 := by
  refine (pay118 (tG m c t s g) (tU m c t s g) (tD m c t s g) X b k l).trans (congrArg (fun S => X (ix2 k l) + if l.val = b.toNat then S else 0) ?_)
  exact Finset.sum_congr rfl fun i _ => dm_apply m c t s g k i

/-- The eight groups' columns. -/
def cols : FVec Ideal S128x128 .f32 :=
  col m c t s (col m c t s (col m c t s (col m c t s (col m c t s (col m c t s (col m c t s (col m c t s (k0_pay105 (F := Ideal))
    0#32 0) 1#32 1) 2#32 2) 3#32 3) 4#32 4) 5#32 5) 6#32 6) 7#32 7

theorem zero105 (j : S128x128.Idx) : k0_pay105 (F := Ideal) j = 0 := by pointwise [k0_pay105]
theorem zero16 (j : S128x128.Idx) : k0_pay16 (F := Ideal) j = 0 := by pointwise [k0_pay16]

/-- A group's lane. -/
abbrev lan (g : Fin 8) : Fin 128 := ⟨g.val, by omega⟩

theorem cols_apply (k : Fin 128) (g : Fin 8) : cols m c t s (ix2 k (lan g)) = sumB m c (chunk t s) g k := by
  rw [cols, col_apply, col_apply, col_apply, col_apply, col_apply, col_apply, col_apply, col_apply, zero105]
  rcases (by revert g; decide : g = 0 ∨ g = 1 ∨ g = 2 ∨ g = 3 ∨ g = 4 ∨ g = 5 ∨ g = 6 ∨ g = 7) with rfl | rfl | rfl | rfl | rfl | rfl | rfl | rfl <;> simp

/-- The running array after a point. -/
def acc (A : FVec Ideal S128x128 .f32) : FVec Ideal S128x128 .f32 :=
  k0_pay216 (F := Ideal) (cols m c t 0) (k0_pay216 (F := Ideal) (cols m c t 1) A)

theorem pay216 (C A : FVec Ideal S128x128 .f32) (k l : Fin 128) : k0_pay216 (F := Ideal) C A (ix2 k l) = A (ix2 k l) + C (ix2 k l) := by
  pointwise [k0_pay216]

theorem acc_apply (A : FVec Ideal S128x128 .f32) (k : Fin 128) (g : Fin 8) :
    acc m c t A (ix2 k (lan g)) = A (ix2 k (lan g)) + (sumB m c (chunk t 1) g k + sumB m c (chunk t 0) g k) := by
  rw [acc, pay216, pay216, cols_apply, cols_apply, add_assoc]

/-- The running array before a point. -/
abbrev prevS : FVec Ideal S128x128 .f32 := (outsAt0 m c (t.val - 1) (Nat.lt_of_le_of_lt (Nat.sub_le _ _) t.isLt)).2.2.2.2.2.2.2.2.2

theorem outS_A (h0 : t.val % 8 = 0) (h1 : ¬ t.val % 8 = 7) :
    (outsAt0 m c t.val t.isLt).2.2.2.2.2.2.2.2.2 = acc m c t (k0_pay16 (F := Ideal)) := by
  rw [outsAt0_A m c t h0 h1]
  frame_out
  rfl

theorem outS_B (h0 : ¬ t.val % 8 = 0) (h1 : ¬ t.val % 8 = 7) :
    (outsAt0 m c t.val t.isLt).2.2.2.2.2.2.2.2.2 = acc m c t (prevS m c t) := by
  rw [outsAt0_B m c t h0 h1]
  frame_out
  exact congrArg (acc m c t) (Memref.IsWhole.read_unread _ _)

theorem outS_C (h0 : ¬ t.val % 8 = 0) (h1 : t.val % 8 = 7) :
    (outsAt0 m c t.val t.isLt).2.2.2.2.2.2.2.2.2 = acc m c t (prevS m c t) := by
  rw [outsAt0_C m c t h0 h1]
  frame_out
  exact congrArg (acc m c t) (Memref.IsWhole.read_unread _ _)

theorem out15_C (h0 : ¬ t.val % 8 = 0) (h1 : t.val % 8 = 7) :
    (outsAt0 m c t.val t.isLt).2.2.2.1 = k0_pay5 (F := Ideal) (acc m c t (prevS m c t)) := by
  rw [outsAt0_C m c t h0 h1]
  frame_out
  exact congrArg (fun A => k0_pay5 (F := Ideal) (acc m c t A)) (Memref.IsWhole.read_unread _ _)

/-- The running array after the last point. -/
theorem last_S (k : Fin 128) (g : Fin 8) :
    ((outsAt0 m c t0_7.val t0_7.isLt).2.2.2.2.2.2.2.2.2 : FVec Ideal S128x128 .f32) (ix2 k (lan g)) = ∑ n, sumB m c n g k := by
  refine (Pipeline.eq_sum_fin_of_reset_step_apply_last
    (fun n h (p : Fin 128 × Fin 8) => ((outsAt0 m c n h).2.2.2.2.2.2.2.2.2 : FVec Ideal S128x128 .f32) (ix2 p.1 (lan p.2))) 8 (fun _ => (0 : EReal))
    (fun t p => sumB m c (chunk t 1) p.2 p.1 + sumB m c (chunk t 0) p.2 p.1)
    (fun t h p => by
      show ((outsAt0 m c t.val t.isLt).2.2.2.2.2.2.2.2.2 : FVec Ideal S128x128 .f32) (ix2 p.1 (lan p.2)) = _
      rw [outS_A m c t h (by omega), acc_apply, zero16])
    (fun t h p => by
      show ((outsAt0 m c t.val t.isLt).2.2.2.2.2.2.2.2.2 : FVec Ideal S128x128 .f32) (ix2 p.1 (lan p.2)) = _
      by_cases h1 : t.val % 8 = 7
      · rw [outS_C m c t h h1, acc_apply]
      · rw [outS_B m c t h h1, acc_apply]) (le_of_eq N_0) t0_7 rfl (k, g)).trans ((zero_add _).trans ?_)
  exact sum_chunks fun n => sumB m c n g k

theorem final15 : (dats m 0 c).arrAt 15 cfg0.N = fun j : S8x128.Idx => ∑ n, sumB m c n (fst j) (snd j) := by
  refine (dats m 0 c).arrAt_eq_of_after_last 15 t0_7 (by decide +kernel) _ fun j => ?_
  blk_simp
  rw [after0_15, out15_C m c t0_7 (by decide) (by decide), ← outS_C m c t0_7 (by decide) (by decide)]
  exact (congrArg (k0_pay5 (F := Ideal) _) (eq_ix2 j)).trans ((pay5 _ _ _).trans (last_S m c _ _))

end Cert.Mix

end
-- ==== Proof.MixWeights.lean ====
/-
  The gradient of the mixing weights: every point adds its two chunks' tiles to the eight groups' tiles.
-/
module

public import proofs.«01_k».proof.Proof.MixSums

@[expose] public section

set_option maxRecDepth 16384

noncomputable section

namespace Cert.Mix

open Idealize.ShloMosaic hiding ix0 ix1 ix2 ix3 ix4 ix5 eq_ix2 eq_ix3 eq_ix4
open Cert.KernelIdeal Cert.KernelIdeal.Gen Idealize.ShloMosaic.TcCoe ValueIdx Cert.Lift
open Idealize.ShloMosaic.Pipeline (Dat)
open scoped BigOperators

/-! ### Stores of one group's tile, read at an entry -/

/-- The tile of group `n`. -/
abbrev rc (n : Nat) (inb : ∀ a, (![n, 0, 0] : Fin 3 → Nat) a + (![1, 128, 128] : Fin 3 → Nat) a ≤ S8x128x128.size a) : Rect S8x128x128 :=
  Rect.unit (s := S8x128x128) ![n, 0, 0] ![1, 128, 128] inb

variable {n : Nat} (inb : ∀ a, (![n, 0, 0] : Fin 3 → Nat) a + (![1, 128, 128] : Fin 3 → Nat) a ≤ S8x128x128.size a)
  (w : FVec Ideal S1x128x128 .f32) (L : List (View.Piece (Elt Ideal) S8x128x128 .f32)) (g : Fin 8) (a b : Fin 128)

theorem at_tile (h : g.val = n) : (rc n inb).idx (ix3 0 a b) = ix3 g a b :=
  funext fun x => Fin.ext ((Rect.idx_unit_val (s := S8x128x128) ![n, 0, 0] ![1, 128, 128] inb (ix3 0 a b) x).trans
    (show (![n, 0, 0] : Fin 3 → Nat) x + ((ix3 (0 : Fin 1) a b) x : Nat) = (ix3 g a b x : Nat) from
      match x with | ⟨0, _⟩ => h.symm | ⟨1, _⟩ => Nat.zero_add _ | ⟨2, _⟩ => Nat.zero_add _))

/-- The last store is the group's own. -/
theorem hit (h : g.val = n) : View.canon (⟨rc n inb, w⟩ :: L) (ix3 g a b) = w (ix3 0 a b) := by
  rw [← at_tile inb g a b h]
  exact View.canon_cons_emb (rc n inb) w L (ix3 0 a b)

/-- The last store is another group's. -/
theorem skip (h : g.val ≠ n) : View.canon (⟨rc n inb, w⟩ :: L) (ix3 g a b) = View.canon L (ix3 g a b) :=
  View.canon_cons_of_not_mem _ L fun hm => by
    have e : n ≤ g.val ∧ g.val < n + 1 := (Rect.mem_set_unit (inb := inb)).1 hm 0
    omega

/-- A tile read back. -/
theorem rd {σ : RefSig} {κ : Kind} {sp : Space} (v : View σ κ sp S8x128x128 .f32) (h : g.val = n) :
    v.readCov (Val := Elt Ideal) L (rc n inb).toLoadRect (ix3 0 a b) = View.canon L (ix3 g a b) :=
  (congrFun (View.readCov_eq_canon' v L (rc n inb).toLoadRect) (ix3 0 a b)).trans (congrArg (View.canon L) (at_tile inb g a b h))

theorem ldt (X : FVec Ideal S8x128x128 .f32) (h : g.val = n) : View.ld (Val := Elt Ideal) (e' := .f32) X (rc n inb) (ix3 0 a b) = X (ix3 g a b) :=
  congrArg X (at_tile inb g a b h)

/-! ### A chunk's update -/

/-- The groups' lanes of the normalised rows. -/
def vnT (V : FVec Ideal S128x1024 .f32) : Fin 8 → FVec Ideal S128x128 .bf16 :=
  ![k0_pay107 V, k0_pay124 V, k0_pay136 V, k0_pay148 V, k0_pay162 V, k0_pay179 V, k0_pay191 V, k0_pay203 V]

theorem pay107 (V : FVec Ideal S128x1024 .f32) (k l : Fin 128) : k0_pay107 (F := Ideal) V (ix2 k l) = V (ix2 k (lane 0 l)) := by
  pointwise [k0_pay107]
  exact congrArg (fun q : Fin 1024 => V (ix2 k q)) (Fin.ext (by show _ = 128 * 0 + l.val; simp))

theorem pay124 (V : FVec Ideal S128x1024 .f32) (k l : Fin 128) : k0_pay124 (F := Ideal) V (ix2 k l) = V (ix2 k (lane 1 l)) := by
  pointwise [k0_pay124]
  exact congrArg (fun q : Fin 1024 => V (ix2 k q)) (Fin.ext (by show _ = 128 * 1 + l.val; simp))

theorem pay136 (V : FVec Ideal S128x1024 .f32) (k l : Fin 128) : k0_pay136 (F := Ideal) V (ix2 k l) = V (ix2 k (lane 2 l)) := by
  pointwise [k0_pay136]
  exact congrArg (fun q : Fin 1024 => V (ix2 k q)) (Fin.ext (by show _ = 128 * 2 + l.val; simp))

theorem pay148 (V : FVec Ideal S128x1024 .f32) (k l : Fin 128) : k0_pay148 (F := Ideal) V (ix2 k l) = V (ix2 k (lane 3 l)) := by
  pointwise [k0_pay148]
  exact congrArg (fun q : Fin 1024 => V (ix2 k q)) (Fin.ext (by show _ = 128 * 3 + l.val; simp))

theorem pay162 (V : FVec Ideal S128x1024 .f32) (k l : Fin 128) : k0_pay162 (F := Ideal) V (ix2 k l) = V (ix2 k (lane 4 l)) := by
  pointwise [k0_pay162]
  exact congrArg (fun q : Fin 1024 => V (ix2 k q)) (Fin.ext (by show _ = 128 * 4 + l.val; simp))

theorem pay179 (V : FVec Ideal S128x1024 .f32) (k l : Fin 128) : k0_pay179 (F := Ideal) V (ix2 k l) = V (ix2 k (lane 5 l)) := by
  pointwise [k0_pay179]
  exact congrArg (fun q : Fin 1024 => V (ix2 k q)) (Fin.ext (by show _ = 128 * 5 + l.val; simp))

theorem pay191 (V : FVec Ideal S128x1024 .f32) (k l : Fin 128) : k0_pay191 (F := Ideal) V (ix2 k l) = V (ix2 k (lane 6 l)) := by
  pointwise [k0_pay191]
  exact congrArg (fun q : Fin 1024 => V (ix2 k q)) (Fin.ext (by show _ = 128 * 6 + l.val; simp))

theorem pay203 (V : FVec Ideal S128x1024 .f32) (k l : Fin 128) : k0_pay203 (F := Ideal) V (ix2 k l) = V (ix2 k (lane 7 l)) := by
  pointwise [k0_pay203]
  exact congrArg (fun q : Fin 1024 => V (ix2 k q)) (Fin.ext (by show _ = 128 * 7 + l.val; simp))

theorem vnT_apply (V : FVec Ideal S128x1024 .f32) (g : Fin 8) (k l : Fin 128) : vnT V g (ix2 k l) = V (ix2 k (lane g l)) := by
  rcases (by revert g; decide : g = 0 ∨ g = 1 ∨ g = 2 ∨ g = 3 ∨ g = 4 ∨ g = 5 ∨ g = 6 ∨ g = 7) with rfl | rfl | rfl | rfl | rfl | rfl | rfl | rfl
  · exact pay107 V k l
  · exact pay124 V k l
  · exact pay136 V k l
  · exact pay148 V k l
  · exact pay162 V k l
  · exact pay179 V k l
  · exact pay191 V k l
  · exact pay203 V k l

variable (m : (ℓ : Loc nD τ sig) → Buf (Elt Ideal) ℓ) (c : Dev nD) (t : Fin cfg0.N) (s : Fin 2)

/-- A group's tile after a chunk. -/
def upd (g : Fin 8) (acc : FVec Ideal S1x128x128 .f32) : FVec Ideal S1x128x128 .f32 :=
  k0_pay117 (F := Ideal) k0_pay103 (vnT (k0_pay102 (tV m c t s) (iblk m c 5 t) (iblk m c 6 t)) g) (tU m c t s g) (k0_pay110 (tG m c t s g) (tD m c t s g)) acc

/-- What a chunk adds to the weights' gradient. -/
def dW (n : Fin 16) (g : Fin 8) (a b : Fin 128) : EReal :=
  outer (fun t c' => Ref.DM (argZ m c) (argD m c) (row n t) (lane g c')) (fun s c' => Ref.VN (argZ m c) (argG m c) (argB m c) (row n s) (lane g c')) a b

theorem upd_apply (g : Fin 8) (acc : FVec Ideal S1x128x128 .f32) (a b : Fin 128) :
    upd m c t s g acc (ix3 0 a b) = acc (ix3 0 a b) + dW m c (chunk t s) g a b := by
  refine (pay117 acc (tG m c t s g) (tU m c t s g) (tD m c t s g) _ a b).trans (congrArg (acc (ix3 0 a b) + ·) ?_)
  exact congrArg₂ (fun D N => outer D N a b) (funext fun k => funext fun l => dm_apply m c t s g k l)
    (funext fun k => funext fun l => (vnT_apply _ g k l).trans (vn_apply m c t s k _))

theorem zero17 (j : S8x128x128.Idx) : k0_pay17 (F := Ideal) j = 0 := by pointwise [k0_pay17]

/-! ### A point's update -/

set_option maxHeartbeats 1600000 in
/-- After the first point, whose stores begin with zeros. -/
theorem out14_A (h0 : t.val % 8 = 0) (h1 : ¬ t.val % 8 = 7) (g : Fin 8) (a b : Fin 128) :
    ((outsAt0 m c t.val t.isLt).2.2.1 : FVec Ideal S8x128x128 .f32) (ix3 g a b) = 0 + (dW m c (chunk t 1) g a b + dW m c (chunk t 0) g a b) := by
  rw [outsAt0_A m c t h0 h1]
  frame_out
  refine Eq.trans ?_ (add_assoc _ _ _)
  rcases (by revert g; decide : g = 0 ∨ g = 1 ∨ g = 2 ∨ g = 3 ∨ g = 4 ∨ g = 5 ∨ g = 6 ∨ g = 7) with rfl | rfl | rfl | rfl | rfl | rfl | rfl | rfl
  · refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (hit _ _ _ 0 a b rfl).trans ((upd_apply m c t 0 0 _ a b).trans (congrArg (· + dW m c (chunk t 0) 0 a b) ?_))
    refine (rd _ _ 0 a b _ rfl).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (skip _ _ _ 0 a b (by decide)).trans ?_
    refine (hit _ _ _ 0 a b rfl).trans ((upd_apply m c t 1 0 _ a b).trans (congrArg (· + dW m c (chunk t 1) 0 a b) ?_))
    refine Eq.trans ?_ (zero17 (ix3 0 a b))
    refine (rd _ _ 0 a b _ rfl).trans ?_
    exact congrFun (View.canon_cons_unit_lit' _ _ _ (by decide)) _
  · refine (skip _ _ _ 1 a b (by decide)).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (hit _ _ _ 1 a b rfl).trans ((upd_apply m c t 0 1 _ a b).trans (congrArg (· + dW m c (chunk t 0) 1 a b) ?_))
    refine (rd _ _ 1 a b _ rfl).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (skip _ _ _ 1 a b (by decide)).trans ?_
    refine (hit _ _ _ 1 a b rfl).trans ((upd_apply m c t 1 1 _ a b).trans (congrArg (· + dW m c (chunk t 1) 1 a b) ?_))
    refine Eq.trans ?_ (zero17 (ix3 1 a b))
    refine (rd _ _ 1 a b _ rfl).trans ?_
    refine (skip _ _ _ 1 a b (by decide)).trans ?_
    exact congrFun (View.canon_cons_unit_lit' _ _ _ (by decide)) _
  · refine (skip _ _ _ 2 a b (by decide)).trans ?_
    refine (skip _ _ _ 2 a b (by decide)).trans ?_
    refine (skip _ _ _ 2 a b (by decide)).trans ?_
    refine (skip _ _ _ 2 a b (by decide)).trans ?_
    refine (skip _ _ _ 2 a b (by decide)).trans ?_
    refine (hit _ _ _ 2 a b rfl).trans ((upd_apply m c t 0 2 _ a b).trans (congrArg (· + dW m c (chunk t 0) 2 a b) ?_))
    refine (rd _ _ 2 a b _ rfl).trans ?_
    refine (skip _ _ _ 2 a b (by decide)).trans ?_
    refine (skip _ _ _ 2 a b (by decide)).trans ?_
    refine (skip _ _ _ 2 a b (by decide)).trans ?_
    refine (skip _ _ _ 2 a b (by decide)).trans ?_
    refine (skip _ _ _ 2 a b (by decide)).trans ?_
    refine (skip _ _ _ 2 a b (by decide)).trans ?_
    refine (skip _ _ _ 2 a b (by decide)).trans ?_
    refine (hit _ _ _ 2 a b rfl).trans ((upd_apply m c t 1 2 _ a b).trans (congrArg (· + dW m c (chunk t 1) 2 a b) ?_))
    refine Eq.trans ?_ (zero17 (ix3 2 a b))
    refine (rd _ _ 2 a b _ rfl).trans ?_
    refine (skip _ _ _ 2 a b (by decide)).trans ?_
    refine (skip _ _ _ 2 a b (by decide)).trans ?_
    exact congrFun (View.canon_cons_unit_lit' _ _ _ (by decide)) _
  · refine (skip _ _ _ 3 a b (by decide)).trans ?_
    refine (skip _ _ _ 3 a b (by decide)).trans ?_
    refine (skip _ _ _ 3 a b (by decide)).trans ?_
    refine (skip _ _ _ 3 a b (by decide)).trans ?_
    refine (hit _ _ _ 3 a b rfl).trans ((upd_apply m c t 0 3 _ a b).trans (congrArg (· + dW m c (chunk t 0) 3 a b) ?_))
    refine (rd _ _ 3 a b _ rfl).trans ?_
    refine (skip _ _ _ 3 a b (by decide)).trans ?_
    refine (skip _ _ _ 3 a b (by decide)).trans ?_
    refine (skip _ _ _ 3 a b (by decide)).trans ?_
    refine (skip _ _ _ 3 a b (by decide)).trans ?_
    refine (skip _ _ _ 3 a b (by decide)).trans ?_
    refine (skip _ _ _ 3 a b (by decide)).trans ?_
    refine (skip _ _ _ 3 a b (by decide)).trans ?_
    refine (hit _ _ _ 3 a b rfl).trans ((upd_apply m c t 1 3 _ a b).trans (congrArg (· + dW m c (chunk t 1) 3 a b) ?_))
    refine Eq.trans ?_ (zero17 (ix3 3 a b))
    refine (rd _ _ 3 a b _ rfl).trans ?_
    refine (skip _ _ _ 3 a b (by decide)).trans ?_
    refine (skip _ _ _ 3 a b (by decide)).trans ?_
    refine (skip _ _ _ 3 a b (by decide)).trans ?_
    exact congrFun (View.canon_cons_unit_lit' _ _ _ (by decide)) _
  · refine (skip _ _ _ 4 a b (by decide)).trans ?_
    refine (skip _ _ _ 4 a b (by decide)).trans ?_
    refine (skip _ _ _ 4 a b (by decide)).trans ?_
    refine (hit _ _ _ 4 a b rfl).trans ((upd_apply m c t 0 4 _ a b).trans (congrArg (· + dW m c (chunk t 0) 4 a b) ?_))
    refine (rd _ _ 4 a b _ rfl).trans ?_
    refine (skip _ _ _ 4 a b (by decide)).trans ?_
    refine (skip _ _ _ 4 a b (by decide)).trans ?_
    refine (skip _ _ _ 4 a b (by decide)).trans ?_
    refine (skip _ _ _ 4 a b (by decide)).trans ?_
    refine (skip _ _ _ 4 a b (by decide)).trans ?_
    refine (skip _ _ _ 4 a b (by decide)).trans ?_
    refine (skip _ _ _ 4 a b (by decide)).trans ?_
    refine (hit _ _ _ 4 a b rfl).trans ((upd_apply m c t 1 4 _ a b).trans (congrArg (· + dW m c (chunk t 1) 4 a b) ?_))
    refine Eq.trans ?_ (zero17 (ix3 4 a b))
    refine (rd _ _ 4 a b _ rfl).trans ?_
    refine (skip _ _ _ 4 a b (by decide)).trans ?_
    refine (skip _ _ _ 4 a b (by decide)).trans ?_
    refine (skip _ _ _ 4 a b (by decide)).trans ?_
    refine (skip _ _ _ 4 a b (by decide)).trans ?_
    exact congrFun (View.canon_cons_unit_lit' _ _ _ (by decide)) _
  · refine (skip _ _ _ 5 a b (by decide)).trans ?_
    refine (skip _ _ _ 5 a b (by decide)).trans ?_
    refine (hit _ _ _ 5 a b rfl).trans ((upd_apply m c t 0 5 _ a b).trans (congrArg (· + dW m c (chunk t 0) 5 a b) ?_))
    refine (rd _ _ 5 a b _ rfl).trans ?_
    refine (skip _ _ _ 5 a b (by decide)).trans ?_
    refine (skip _ _ _ 5 a b (by decide)).trans ?_
    refine (skip _ _ _ 5 a b (by decide)).trans ?_
    refine (skip _ _ _ 5 a b (by decide)).trans ?_
    refine (skip _ _ _ 5 a b (by decide)).trans ?_
    refine (skip _ _ _ 5 a b (by decide)).trans ?_
    refine (skip _ _ _ 5 a b (by decide)).trans ?_
    refine (hit _ _ _ 5 a b rfl).trans ((upd_apply m c t 1 5 _ a b).trans (congrArg (· + dW m c (chunk t 1) 5 a b) ?_))
    refine Eq.trans ?_ (zero17 (ix3 5 a b))
    refine (rd _ _ 5 a b _ rfl).trans ?_
    refine (skip _ _ _ 5 a b (by decide)).trans ?_
    refine (skip _ _ _ 5 a b (by decide)).trans ?_
    refine (skip _ _ _ 5 a b (by decide)).trans ?_
    refine (skip _ _ _ 5 a b (by decide)).trans ?_
    refine (skip _ _ _ 5 a b (by decide)).trans ?_
    exact congrFun (View.canon_cons_unit_lit' _ _ _ (by decide)) _
  · refine (skip _ _ _ 6 a b (by decide)).trans ?_
    refine (hit _ _ _ 6 a b rfl).trans ((upd_apply m c t 0 6 _ a b).trans (congrArg (· + dW m c (chunk t 0) 6 a b) ?_))
    refine (rd _ _ 6 a b _ rfl).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (hit _ _ _ 6 a b rfl).trans ((upd_apply m c t 1 6 _ a b).trans (congrArg (· + dW m c (chunk t 1) 6 a b) ?_))
    refine Eq.trans ?_ (zero17 (ix3 6 a b))
    refine (rd _ _ 6 a b _ rfl).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (skip _ _ _ 6 a b (by decide)).trans ?_
    refine (skip _ _ _ 6 a b (by decide)).trans ?_
    exact congrFun (View.canon_cons_unit_lit' _ _ _ (by decide)) _
  · refine (hit _ _ _ 7 a b rfl).trans ((upd_apply m c t 0 7 _ a b).trans (congrArg (· + dW m c (chunk t 0) 7 a b) ?_))
    refine (rd _ _ 7 a b _ rfl).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (hit _ _ _ 7 a b rfl).trans ((upd_apply m c t 1 7 _ a b).trans (congrArg (· + dW m c (chunk t 1) 7 a b) ?_))
    refine Eq.trans ?_ (zero17 (ix3 7 a b))
    refine (rd _ _ 7 a b _ rfl).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    refine (skip _ _ _ 7 a b (by decide)).trans ?_
    exact congrFun (View.canon_cons_unit_lit' _ _ _ (by decide)) _

theorem out14_B (h0 : ¬ t.val % 8 = 0) (h1 : ¬ t.val % 8 = 7) (g : Fin 8) (a b : Fin 128) :
    ((outsAt0 m c t.val t.isLt).2.2.1 : FVec Ideal S8x128x128 .f32) (ix3 g a b) = ((outsAt0 m c (t.val - 1) (Nat.lt_of_le_of_lt (Nat.sub_le _ _) t.isLt)).2.2.1 : FVec Ideal S8x128x128 .f32) (ix3 g a b) + (dW m c (chunk t 1) g a b + dW m c (chunk t 0) g a b) := by
  rw [outsAt0_B m c t h0 h1]
  frame_out
  rw [← add_assoc]
  rcases (by revert g; decide : g = 0 ∨ g = 1 ∨ g = 2 ∨ g = 3 ∨ g = 4 ∨ g = 5 ∨ g = 6 ∨ g = 7) with rfl | rfl | rfl | rfl | rfl | rfl | rfl | rfl
  · repeat refine (skip _ _ _ 0 a b (by decide)).trans ?_
    refine (hit _ _ _ 0 a b rfl).trans ((upd_apply m c t 0 0 _ a b).trans (congrArg (· + dW m c (chunk t 0) 0 a b) ?_))
    refine (rd _ _ 0 a b _ rfl).trans ?_
    repeat refine (skip _ _ _ 0 a b (by decide)).trans ?_
    refine (hit _ _ _ 0 a b rfl).trans ((upd_apply m c t 1 0 _ a b).trans (congrArg (· + dW m c (chunk t 1) 0 a b) ?_))
    exact ldt _ 0 a b _ rfl
  · repeat refine (skip _ _ _ 1 a b (by decide)).trans ?_
    refine (hit _ _ _ 1 a b rfl).trans ((upd_apply m c t 0 1 _ a b).trans (congrArg (· + dW m c (chunk t 0) 1 a b) ?_))
    refine (rd _ _ 1 a b _ rfl).trans ?_
    repeat refine (skip _ _ _ 1 a b (by decide)).trans ?_
    refine (hit _ _ _ 1 a b rfl).trans ((upd_apply m c t 1 1 _ a b).trans (congrArg (· + dW m c (chunk t 1) 1 a b) ?_))
    exact ldt _ 1 a b _ rfl
  · repeat refine (skip _ _ _ 2 a b (by decide)).trans ?_
    refine (hit _ _ _ 2 a b rfl).trans ((upd_apply m c t 0 2 _ a b).trans (congrArg (· + dW m c (chunk t 0) 2 a b) ?_))
    refine (rd _ _ 2 a b _ rfl).trans ?_
    repeat refine (skip _ _ _ 2 a b (by decide)).trans ?_
    refine (hit _ _ _ 2 a b rfl).trans ((upd_apply m c t 1 2 _ a b).trans (congrArg (· + dW m c (chunk t 1) 2 a b) ?_))
    exact ldt _ 2 a b _ rfl
  · repeat refine (skip _ _ _ 3 a b (by decide)).trans ?_
    refine (hit _ _ _ 3 a b rfl).trans ((upd_apply m c t 0 3 _ a b).trans (congrArg (· + dW m c (chunk t 0) 3 a b) ?_))
    refine (rd _ _ 3 a b _ rfl).trans ?_
    repeat refine (skip _ _ _ 3 a b (by decide)).trans ?_
    refine (hit _ _ _ 3 a b rfl).trans ((upd_apply m c t 1 3 _ a b).trans (congrArg (· + dW m c (chunk t 1) 3 a b) ?_))
    exact ldt _ 3 a b _ rfl
  · repeat refine (skip _ _ _ 4 a b (by decide)).trans ?_
    refine (hit _ _ _ 4 a b rfl).trans ((upd_apply m c t 0 4 _ a b).trans (congrArg (· + dW m c (chunk t 0) 4 a b) ?_))
    refine (rd _ _ 4 a b _ rfl).trans ?_
    repeat refine (skip _ _ _ 4 a b (by decide)).trans ?_
    refine (hit _ _ _ 4 a b rfl).trans ((upd_apply m c t 1 4 _ a b).trans (congrArg (· + dW m c (chunk t 1) 4 a b) ?_))
    exact ldt _ 4 a b _ rfl
  · repeat refine (skip _ _ _ 5 a b (by decide)).trans ?_
    refine (hit _ _ _ 5 a b rfl).trans ((upd_apply m c t 0 5 _ a b).trans (congrArg (· + dW m c (chunk t 0) 5 a b) ?_))
    refine (rd _ _ 5 a b _ rfl).trans ?_
    repeat refine (skip _ _ _ 5 a b (by decide)).trans ?_
    refine (hit _ _ _ 5 a b rfl).trans ((upd_apply m c t 1 5 _ a b).trans (congrArg (· + dW m c (chunk t 1) 5 a b) ?_))
    exact ldt _ 5 a b _ rfl
  · repeat refine (skip _ _ _ 6 a b (by decide)).trans ?_
    refine (hit _ _ _ 6 a b rfl).trans ((upd_apply m c t 0 6 _ a b).trans (congrArg (· + dW m c (chunk t 0) 6 a b) ?_))
    refine (rd _ _ 6 a b _ rfl).trans ?_
    repeat refine (skip _ _ _ 6 a b (by decide)).trans ?_
    refine (hit _ _ _ 6 a b rfl).trans ((upd_apply m c t 1 6 _ a b).trans (congrArg (· + dW m c (chunk t 1) 6 a b) ?_))
    exact ldt _ 6 a b _ rfl
  · repeat refine (skip _ _ _ 7 a b (by decide)).trans ?_
    refine (hit _ _ _ 7 a b rfl).trans ((upd_apply m c t 0 7 _ a b).trans (congrArg (· + dW m c (chunk t 0) 7 a b) ?_))
    refine (rd _ _ 7 a b _ rfl).trans ?_
    repeat refine (skip _ _ _ 7 a b (by decide)).trans ?_
    refine (hit _ _ _ 7 a b rfl).trans ((upd_apply m c t 1 7 _ a b).trans (congrArg (· + dW m c (chunk t 1) 7 a b) ?_))
    exact ldt _ 7 a b _ rfl

theorem out14_C (h0 : ¬ t.val % 8 = 0) (h1 : t.val % 8 = 7) (g : Fin 8) (a b : Fin 128) :
    ((outsAt0 m c t.val t.isLt).2.2.1 : FVec Ideal S8x128x128 .f32) (ix3 g a b) = ((outsAt0 m c (t.val - 1) (Nat.lt_of_le_of_lt (Nat.sub_le _ _) t.isLt)).2.2.1 : FVec Ideal S8x128x128 .f32) (ix3 g a b) + (dW m c (chunk t 1) g a b + dW m c (chunk t 0) g a b) := by
  rw [outsAt0_C m c t h0 h1]
  frame_out
  rw [← add_assoc]
  rcases (by revert g; decide : g = 0 ∨ g = 1 ∨ g = 2 ∨ g = 3 ∨ g = 4 ∨ g = 5 ∨ g = 6 ∨ g = 7) with rfl | rfl | rfl | rfl | rfl | rfl | rfl | rfl
  · repeat refine (skip _ _ _ 0 a b (by decide)).trans ?_
    refine (hit _ _ _ 0 a b rfl).trans ((upd_apply m c t 0 0 _ a b).trans (congrArg (· + dW m c (chunk t 0) 0 a b) ?_))
    refine (rd _ _ 0 a b _ rfl).trans ?_
    repeat refine (skip _ _ _ 0 a b (by decide)).trans ?_
    refine (hit _ _ _ 0 a b rfl).trans ((upd_apply m c t 1 0 _ a b).trans (congrArg (· + dW m c (chunk t 1) 0 a b) ?_))
    exact ldt _ 0 a b _ rfl
  · repeat refine (skip _ _ _ 1 a b (by decide)).trans ?_
    refine (hit _ _ _ 1 a b rfl).trans ((upd_apply m c t 0 1 _ a b).trans (congrArg (· + dW m c (chunk t 0) 1 a b) ?_))
    refine (rd _ _ 1 a b _ rfl).trans ?_
    repeat refine (skip _ _ _ 1 a b (by decide)).trans ?_
    refine (hit _ _ _ 1 a b rfl).trans ((upd_apply m c t 1 1 _ a b).trans (congrArg (· + dW m c (chunk t 1) 1 a b) ?_))
    exact ldt _ 1 a b _ rfl
  · repeat refine (skip _ _ _ 2 a b (by decide)).trans ?_
    refine (hit _ _ _ 2 a b rfl).trans ((upd_apply m c t 0 2 _ a b).trans (congrArg (· + dW m c (chunk t 0) 2 a b) ?_))
    refine (rd _ _ 2 a b _ rfl).trans ?_
    repeat refine (skip _ _ _ 2 a b (by decide)).trans ?_
    refine (hit _ _ _ 2 a b rfl).trans ((upd_apply m c t 1 2 _ a b).trans (congrArg (· + dW m c (chunk t 1) 2 a b) ?_))
    exact ldt _ 2 a b _ rfl
  · repeat refine (skip _ _ _ 3 a b (by decide)).trans ?_
    refine (hit _ _ _ 3 a b rfl).trans ((upd_apply m c t 0 3 _ a b).trans (congrArg (· + dW m c (chunk t 0) 3 a b) ?_))
    refine (rd _ _ 3 a b _ rfl).trans ?_
    repeat refine (skip _ _ _ 3 a b (by decide)).trans ?_
    refine (hit _ _ _ 3 a b rfl).trans ((upd_apply m c t 1 3 _ a b).trans (congrArg (· + dW m c (chunk t 1) 3 a b) ?_))
    exact ldt _ 3 a b _ rfl
  · repeat refine (skip _ _ _ 4 a b (by decide)).trans ?_
    refine (hit _ _ _ 4 a b rfl).trans ((upd_apply m c t 0 4 _ a b).trans (congrArg (· + dW m c (chunk t 0) 4 a b) ?_))
    refine (rd _ _ 4 a b _ rfl).trans ?_
    repeat refine (skip _ _ _ 4 a b (by decide)).trans ?_
    refine (hit _ _ _ 4 a b rfl).trans ((upd_apply m c t 1 4 _ a b).trans (congrArg (· + dW m c (chunk t 1) 4 a b) ?_))
    exact ldt _ 4 a b _ rfl
  · repeat refine (skip _ _ _ 5 a b (by decide)).trans ?_
    refine (hit _ _ _ 5 a b rfl).trans ((upd_apply m c t 0 5 _ a b).trans (congrArg (· + dW m c (chunk t 0) 5 a b) ?_))
    refine (rd _ _ 5 a b _ rfl).trans ?_
    repeat refine (skip _ _ _ 5 a b (by decide)).trans ?_
    refine (hit _ _ _ 5 a b rfl).trans ((upd_apply m c t 1 5 _ a b).trans (congrArg (· + dW m c (chunk t 1) 5 a b) ?_))
    exact ldt _ 5 a b _ rfl
  · repeat refine (skip _ _ _ 6 a b (by decide)).trans ?_
    refine (hit _ _ _ 6 a b rfl).trans ((upd_apply m c t 0 6 _ a b).trans (congrArg (· + dW m c (chunk t 0) 6 a b) ?_))
    refine (rd _ _ 6 a b _ rfl).trans ?_
    repeat refine (skip _ _ _ 6 a b (by decide)).trans ?_
    refine (hit _ _ _ 6 a b rfl).trans ((upd_apply m c t 1 6 _ a b).trans (congrArg (· + dW m c (chunk t 1) 6 a b) ?_))
    exact ldt _ 6 a b _ rfl
  · repeat refine (skip _ _ _ 7 a b (by decide)).trans ?_
    refine (hit _ _ _ 7 a b rfl).trans ((upd_apply m c t 0 7 _ a b).trans (congrArg (· + dW m c (chunk t 0) 7 a b) ?_))
    refine (rd _ _ 7 a b _ rfl).trans ?_
    repeat refine (skip _ _ _ 7 a b (by decide)).trans ?_
    refine (hit _ _ _ 7 a b rfl).trans ((upd_apply m c t 1 7 _ a b).trans (congrArg (· + dW m c (chunk t 1) 7 a b) ?_))
    exact ldt _ 7 a b _ rfl

theorem final14 : (dats m 0 c).arrAt 14 cfg0.N = fun j : S8x128x128.Idx => ∑ n, dW m c n (j 0) (j 1) (j 2) := by
  refine (dats m 0 c).arrAt_eq_of_after_last 14 t0_7 (by decide +kernel) _ fun j => ?_
  blk_simp
  rw [after0_14, Pipeline.eq_sum_fin_of_reset_step_apply_last (fun n h => (outsAt0 m c n h).2.2.1) 8 (fun _ => (0 : EReal))
    (fun t j => dW m c (chunk t 1) (j 0) (j 1) (j 2) + dW m c (chunk t 0) (j 0) (j 1) (j 2))
    (fun t h j => by
      obtain ⟨g, a, b, rfl⟩ : ∃ (g : Fin 8) (a b : Fin 128), j = ix3 g a b := ⟨j 0, j 1, j 2, ValueIdx.eq_ix3 j⟩
      exact out14_A m c t h (by omega) g a b)
    (fun t h j => by
      obtain ⟨g, a, b, rfl⟩ : ∃ (g : Fin 8) (a b : Fin 128), j = ix3 g a b := ⟨j 0, j 1, j 2, ValueIdx.eq_ix3 j⟩
      by_cases h1 : t.val % 8 = 7
      · exact out14_C m c t h h1 g a b
      · exact out14_B m c t h h1 g a b) (le_of_eq N_0) t0_7 rfl j, zero_add]
  exact sum_chunks fun n => dW m c n (j 0) (j 1) (j 2)

end Cert.Mix

end
-- ==== Proof.MixClaim.lean ====
/-
  `_mixer_bwd`: the gradients of the mixing weights and their bias, of the layer norm's scale and shift and of the output
  projection's weights are the reference's, at any inputs.
-/
module

public import proofs.«01_k».proof.Defs
public import proofs.«01_k».proof.Proof.MixSums
public import proofs.«01_k».proof.Proof.MixBias
public import proofs.«01_k».proof.Proof.MixWeights
public import proofs.«01_k».proof.Proof.MixRef
public import proofs.«01_k».proof.Proof.Gen.ReferenceIdeal.Run
public import Idealize.ShloMosaic.Lib.Quiescent

@[expose] public section

set_option maxRecDepth 16384

noncomputable section

namespace Cert.Mix

open Idealize.ShloMosaic hiding ix0 ix1 ix2 ix3 ix4 ix5 eq_ix1 eq_ix2 eq_ix3 eq_ix4
open Cert.KernelIdeal Idealize.ShloMosaic.TcCoe ValueIdx Idealize.SL.Sem Cert.Lift Cert.ReferenceIdeal.Read
open scoped BigOperators

variable (m : (ℓ : Loc nD τ sig) → Buf (Elt Ideal) ℓ) (c : Dev nD)

theorem res14 : val_main_v57 (F := Ideal) (argZ m c) (argD m c) (argG m c) (argB m c)
    = fun j => ∑ n, dW m c n (j 0) (j 1) (j 2) :=
  funext fun j => (congrArg _ (eq_ix3 j)).trans (Ref.v57 ..)

theorem res15 : val_main_v51 (F := Ideal) (argZ m c) (argD m c) = fun j => ∑ n, sumB m c n (fst j) (snd j) :=
  funext fun j => (congrArg _ (eq_ix2 j)).trans (Ref.v51 ..)

theorem res16 : val_main_v71 (F := Ideal) (argZ m c) (argD m c) (argW m c) = fun j => ∑ n, sG m c n (snd j) :=
  funext fun j => (congrArg _ (row0 j)).trans (Ref.v71 ..)

theorem res17 : val_main_v72 (F := Ideal) (argZ m c) (argD m c) (argW m c) = fun j => ∑ n, sB m c n (snd j) :=
  funext fun j => (congrArg _ (row0 j)).trans (Ref.v72 ..)

theorem res18 : val_main_v73 (F := Ideal) (argA m c) (argY m c) = fun j => wOut m c (fst j) (snd j) :=
  funext fun j => (congrArg _ (eq_ix2 j)).trans (Ref.v73 ..)

theorem value14 : val_main_v57 (F := Ideal) (argZ m c) (argD m c) (argG m c) (argB m c) = (Gen.dats m 0 c).arrAt 14 cfg0.N :=
  (res14 m c).trans (final14 m c).symm

theorem value15 : val_main_v51 (F := Ideal) (argZ m c) (argD m c) = (Gen.dats m 0 c).arrAt 15 cfg0.N :=
  (res15 m c).trans (final15 m c).symm

theorem value16 : val_main_v71 (F := Ideal) (argZ m c) (argD m c) (argW m c) = (Gen.dats m 0 c).arrAt 16 cfg0.N :=
  (res16 m c).trans (final16 m c).symm

theorem value17 : val_main_v72 (F := Ideal) (argZ m c) (argD m c) (argW m c) = (Gen.dats m 0 c).arrAt 17 cfg0.N :=
  (res17 m c).trans (final17 m c).symm

theorem value18 : val_main_v73 (F := Ideal) (argA m c) (argY m c) = (Gen.dats m 0 c).arrAt 18 cfg0.N :=
  (res18 m c).trans (final18 m c).symm

/-- The reference's frame: it declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

set_option maxHeartbeats 1600000 in
theorem algebraic : Cert.algebraic_KernelIdeal_ReferenceIdeal := by
  intro m g m' g' _ hargs
  refine ⟨_, _, _, _, _, (θ_run Cert.KernelIdeal.defs _ _).mono (fun r h c => (h c).2.2) (Cert.KernelIdeal.Value.run_blocks m g), ?_⟩
  refine (θ_run Cert.ReferenceIdeal.defs _ _).mono (fun r h c => ?_) (Cert.ReferenceIdeal.Value.run (F := Ideal) m' g')
  obtain ⟨h0, h1, h2, h3, h4, hk⟩ := h c
  obtain ⟨a0, a1, a2, a3, a4, a5, a6, a7, a8, a9⟩ := hargs c
  refine ⟨h0.trans ?_, h1.trans ?_, h2.trans ?_, h3.trans ?_, h4.trans ?_, hk⟩
  · refine (val_main_v57_eq ..).trans ?_
    rw [a0, a1, a3, a4]
    exact value14 m c
  · refine (val_main_v51_eq ..).trans ?_
    rw [a0, a1]
    exact value15 m c
  · refine (val_main_v71_eq ..).trans ?_
    rw [a0, a1, a5]
    exact value16 m c
  · refine (val_main_v72_eq ..).trans ?_
    rw [a0, a1, a5]
    exact value17 m c
  · refine (val_main_v73_eq ..).trans ?_
    rw [a7, a9]
    exact value18 m c

end Cert.Mix

end
-- ==== Proof.ZBwdBlock.lean ====
/-
  What one grid point of `z_proj_bwd_norm` computes, on finite blocks.

  A point takes 256 rows of the cotangent `dz` and of the tokens `x`, and the whole transposed weight. Per row it forms
  `dh = dz · w_inᵀ`, the normalised row `x · r` with `r = (mean x² + eps)^(-1/2)`, and the row's gradient; over its
  rows it adds up `dh` and `dh · x · r` column by column. The real formulas are stated of one row (`dhRow`, `rms`,
  `gxRow`), so that the whole array's formulas are the same ones.
-/
module

public import proofs.«01_k».proof.Proof.Lift
public import proofs.«01_k».proof.Proof.Gen.Kernel2Ideal.Skeleton

@[expose] public section

noncomputable section

namespace Cert.ZBwd

open Idealize.ShloMosaic ValueIdx Cert.Lift
open scoped BigOperators

/-- One entry of `dz · w_inᵀ`: a row of `dz` against row `j` of `w_in`. -/
def dhRow (d : Fin 5376 → ℝ) (w : Fin 2048 → Fin 5376 → ℝ) (j : Fin 2048) : ℝ := ∑ k, d k * w j k

/-- The mean square of a row, with the small number added. -/
def msq (x : Fin 2048 → ℝ) : ℝ := (∑ k, x k * x k) / 2048 + eps

theorem msq_pos (x : Fin 2048 → ℝ) : 0 < msq x := by
  have h : 0 ≤ ∑ k, x k * x k := Finset.sum_nonneg fun k _ => mul_self_nonneg _
  have := eps_pos
  unfold msq
  positivity

/-- The reciprocal root mean square of a row. -/
def rms (x : Fin 2048 → ℝ) : ℝ := (Real.sqrt (msq x))⁻¹

/-- One entry of the gradient of a row through the norm and its gain `g · (1 + s)`. -/
def gxRow (dh x g s : Fin 2048 → ℝ) (j : Fin 2048) : ℝ :=
  rms x * (dh j * ((1 + s j) * g j) - x j * rms x * ((∑ k, dh k * (x k * rms x) * ((1 + s k) * g k)) / 2048))

end Cert.ZBwd

namespace Cert.Kernel2Ideal.Block

open Cert.Kernel2Ideal Cert.Kernel2Ideal.Gen Idealize.ShloMosaic ValueIdx Cert.Lift Cert.ZBwd
open scoped BigOperators

variable (D : S256x5376.Idx → ℝ) (W : S5376x2048.Idx → ℝ) (X : S256x2048.Idx → ℝ) (G S : S1x2048.Idx → ℝ)

/-- A row of a block, and the one row of a row vector. -/
abbrev rowOf {n m : Nat} (v : (⟨2, ![n, m]⟩ : Shape).Idx → ℝ) (p : Fin n) : Fin m → ℝ := fun k => v (ix2 p k)
/-- The weight rows of a transposed weight. -/
abbrev colsOf (W : S5376x2048.Idx → ℝ) : Fin 2048 → Fin 5376 → ℝ := fun j k => W (ix2 k j)

/-- A finite block, read as a block of either format. -/
abbrev upF {s : Shape} (v : s.Idx → ℝ) : FVec Ideal s .f32 := up v
/-- A finite block of the narrow format. -/
abbrev upB {s : Shape} (v : s.Idx → ℝ) : FVec Ideal s .bf16 := up v

theorem pay7 : k0_pay7 (F := Ideal) (upB D) (upB W) = up (fun j => dhRow (rowOf D (fst j)) (colsOf W) (snd j)) := by
  unfold k0_pay7
  dsimp only
  rw [shapeCast_self]
  exact up_matmul_nn _ rfl rfl (fun _ _ => rfl) (fun _ _ => rfl) (fun _ _ => rfl) (fun _ _ => rfl) D W

theorem pay8 : k0_pay8 (F := Ideal) (upF S) = up (fun j => 1 + S j) := by
  unfold k0_pay8
  dsimp only
  rw [up_splat 1 _ lit_one, up_addf]

theorem pay9 : k0_pay9 (F := Ideal) (upF X) = up (fun j => rms (rowOf X (fst j))) := by
  unfold k0_pay9
  dsimp only
  rw [up_mulf]
  erw [up_sumLast]
  rw [up_shapeCast, up_splat 2048 _ lit_2048, up_divf _ _ (fun _ => by norm_num), up_splat eps _ lit_eps,
    up_addf]
  have e : (fun j : S256x1.Idx => shapeCast S256x1 (fun j : S256.Idx => ∑ k : Fin 2048, X (ix2 (only j) k) * X (ix2 (only j) k)) shapeCasts_S256_S256x1 j / 2048 + eps)
      = fun j => msq (rowOf X (fst j)) := funext fun j => by
    rw [castCol_apply]; rfl
  rw [e, up_rsqrt _ fun j => msq_pos _]
  rfl

theorem pay10 : k0_pay10 (F := Ideal) (upF X) = up (fun j => X j * rms (rowOf X (fst j))) := by
  unfold k0_pay10
  dsimp only
  rw [pay9, up_broadcastTo, up_mulf]
  exact congrArg up (funext fun j => by rw [bcCol_apply])

theorem pay11 : k0_pay11 (F := Ideal) (upF G) (upF S) = up (fun j => (1 + S j) * G j) := by
  unfold k0_pay11
  dsimp only
  rw [pay8, up_mulf]

theorem pay12 : k0_pay12 (F := Ideal) (upB D) (upB W) (upF X)
    = up (fun j => dhRow (rowOf D (fst j)) (colsOf W) (snd j) * (X j * rms (rowOf X (fst j)))) := by
  unfold k0_pay12
  dsimp only
  rw [pay7, pay10, up_mulf]

/-- The column sums of `dh · x · r` over the block. -/
def dxnSum (j : Fin 2048) : ℝ := ∑ p : Fin 256, dhRow (rowOf D p) (colsOf W) j * (X (ix2 p j) * rms (rowOf X p))
/-- The column sums of `dh` over the block. -/
def dhSum (j : Fin 2048) : ℝ := ∑ p : Fin 256, dhRow (rowOf D p) (colsOf W) j

theorem pay13 : k0_pay13 (F := Ideal) (upB D) (upB W) (upF X) = up (fun j => dxnSum D W X (snd j)) := by
  unfold k0_pay13
  dsimp only
  rw [pay12]
  erw [up_sumFirst]
  rw [up_shapeCast]
  exact congrArg up (funext fun j => by rw [castRow_apply]; rfl)

theorem pay14 (A : S1x2048.Idx → ℝ) : k0_pay14 (F := Ideal) (upB D) (upB W) (upF A) = up (fun j => A j + dhSum D W (snd j)) := by
  unfold k0_pay14
  dsimp only
  rw [pay7]
  erw [up_sumFirst]
  rw [shapeCast_self, up_shapeCast, up_addf]
  exact congrArg up (funext fun j => by rw [castRow_apply]; rfl)

theorem pay1 (C A : S1x2048.Idx → ℝ) : k0_pay1 (F := Ideal) (upF G) (upF C) (upF A) = up (fun j => A j + C j * G j) := by
  unfold k0_pay1
  dsimp only
  rw [shapeCast_self, up_mulf, up_addf]

theorem pay2 (C A : S1x2048.Idx → ℝ) : k0_pay2 (F := Ideal) (upF G) (upF C) (upF A) = up (fun j => A j + C j * G j) := by
  unfold k0_pay2
  dsimp only
  rw [shapeCast_self, up_mulf, up_addf]

/-- The gradient rows: what reaches `x` through the norm is added to the cotangent `Y`, which may hold infinities. -/
theorem pay3 (Y : FVec Ideal S256x2048 .f32) :
    k0_pay3 (F := Ideal) (k0_pay7 (upB D) (upB W)) (k0_pay9 (upF X)) (k0_pay10 (upF X)) (k0_pay11 (upF G) (upF S))
        (k0_pay12 (upB D) (upB W) (upF X)) Y
      = fun j => Y j + ((gxRow (dhRow (rowOf D (fst j)) (colsOf W)) (rowOf X (fst j)) (rowOf G 0) (rowOf S 0) (snd j) : ℝ) : EReal) := by
  unfold k0_pay3
  dsimp only
  rw [pay7, pay9, pay10, pay11, pay12]
  rw [up_broadcastTo, up_broadcastTo, up_mulf, up_mulf]
  erw [up_sumLast]
  rw [up_shapeCast, up_splat 2048 _ lit_2048, up_divf _ _ (fun _ => by norm_num)]
  simp only [up_broadcastTo, up_mulf, up_subf]
  funext j
  refine congrArg (Y j + ·) (congrArg (fun r : ℝ => (r : EReal)) ?_)
  simp only [bcRow_apply, bcCol_apply, castCol_apply]
  rw [eq_ix2 j]
  rfl

end Cert.Kernel2Ideal.Block

end
-- ==== Proof.ZBwdPoint.lean ====
/-
  What the body of `z_proj_bwd_norm` leaves in each output block at a grid point, as the generated payloads of the input
  blocks: at the first point the three accumulators start from zeros, at a later one from what the point before left.
-/
module

public import proofs.«01_k».proof.Proof.Gen.Kernel2Ideal.Frame
public import Idealize.ShloMosaic.Lib.Pipeline.Value
public import Idealize.ShloMosaic.Lib.Tactic

@[expose] public section

noncomputable section

namespace Cert.Kernel2Ideal.Block

open Cert.Kernel2Ideal Cert.Kernel2Ideal.Gen Idealize.ShloMosaic Idealize.ShloMosaic.TcCoe

variable {F : FTy → Type} [FloatOps F]
variable (c : Dev nD) (i : grid0.Coords)
  (a1 : Memref sig .tc .vmem S256x5376 .bf16) (h1 : a1.IsWhole)
  (a2 : Memref sig .tc .vmem S5376x2048 .bf16) (h2 : a2.IsWhole)
  (a3 : Memref sig .tc .vmem S256x2048 .f32) (h3 : a3.IsWhole)
  (a4 : Memref sig .tc .vmem S256x2048 .f32) (h4 : a4.IsWhole)
  (a5 : Memref sig .tc .vmem S1x2048 .f32) (h5 : a5.IsWhole)
  (a6 : Memref sig .tc .vmem S1x2048 .f32) (h6 : a6.IsWhole)
  (a7 : Memref sig .tc .vmem S8x128 .f32) (h7 : a7.IsWhole)
  (a8 : Memref sig .tc .vmem S256x2048 .f32) (h8 : a8.IsWhole)
  (a9 : Memref sig .tc .vmem S1x2048 .f32) (h9 : a9.IsWhole)
  (a10 : Memref sig .tc .vmem S1x2048 .f32) (h10 : a10.IsWhole)
  (a11 : Memref sig .tc .vmem S1x2048 .f32) (h11 : a11.IsWhole)
  (x0 : Vec F S256x5376 .bf16) (x1 : Vec F S5376x2048 .bf16) (x2 x3 : Vec F S256x2048 .f32) (x4 x5 : Vec F S1x2048 .f32)
  (x6 : Vec F S8x128 .f32) (o8 o9 o10 : Vec F S1x2048 .f32)

theorem hz : (![0, 0] : Fin 2 → Nat) = fun _ => 0 := funext fun a => by fin_cases a <;> rfl

/-- The first point: the accumulators start from the zero blocks it stores. -/
theorem outA (hc : cond0_0 i) :
    out0_A_7 c i a1 h1 a2 h2 a3 h3 a4 h4 a5 h5 a6 h6 a7 h7 a8 h8 a9 h9 a10 h10 a11 h11 hc x0 x1 x2 x3 x4 x5 x6
      = k0_pay3 (k0_pay7 x0 x1) (k0_pay9 x2) (k0_pay10 x2) (k0_pay11 x4 x5) (k0_pay12 x0 x1 x2) x3
    ∧ out0_A_8 c i a1 h1 a2 h2 a3 h3 a4 h4 a5 h5 a6 h6 a7 h7 a8 h8 a9 h9 a10 h10 a11 h11 hc x0 x1 x2 x3 x4 x5 x6
      = k0_pay14 x0 x1 (k0_pay4 (F := F))
    ∧ out0_A_9 c i a1 h1 a2 h2 a3 h3 a4 h4 a5 h5 a6 h6 a7 h7 a8 h8 a9 h9 a10 h10 a11 h11 hc x0 x1 x2 x3 x4 x5 x6
      = k0_pay1 x4 (k0_pay13 x0 x1 x2) (k0_pay5 (F := F))
    ∧ out0_A_10 c i a1 h1 a2 h2 a3 h3 a4 h4 a5 h5 a6 h6 a7 h7 a8 h8 a9 h9 a10 h10 a11 h11 hc x0 x1 x2 x3 x4 x5 x6
      = k0_pay2 (k0_pay8 x5) (k0_pay13 x0 x1 x2) (k0_pay6 (F := F)) := by
  refine ⟨?_, ?_, ?_, ?_⟩
  · exact View.read_writes_eq_canon _ _ _ (cover0_A_7 c i a1 h1 a2 h2 a3 h3 a4 h4 a5 h5 a6 h6 a7 h7 a8 h8 a9 h9 a10 h10 a11 h11 hc x0 x1 x2 x3 x4 x5 x6) |>.trans (by
      unfold kernelRun0_A; dsimp only; sl_unfold_words
      rw [View.canon_unit_zero (S := S256x2048) hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_A_8 c i a1 h1 a2 h2 a3 h3 a4 h4 a5 h5 a6 h6 a7 h7 a8 h8 a9 h9 a10 h10 a11 h11 hc x0 x1 x2 x3 x4 x5 x6) |>.trans (by
      unfold kernelRun0_A; dsimp only; sl_unfold_words
      rw [View.canon_cons_unit_zero (S := S1x2048) hz, View.readCov_unit_zero (S := S1x2048) _ hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_A_9 c i a1 h1 a2 h2 a3 h3 a4 h4 a5 h5 a6 h6 a7 h7 a8 h8 a9 h9 a10 h10 a11 h11 hc x0 x1 x2 x3 x4 x5 x6) |>.trans (by
      unfold kernelRun0_A; dsimp only; sl_unfold_words
      rw [View.canon_cons_unit_zero (S := S1x2048) hz, View.readCov_unit_zero (S := S1x2048) _ hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_A_10 c i a1 h1 a2 h2 a3 h3 a4 h4 a5 h5 a6 h6 a7 h7 a8 h8 a9 h9 a10 h10 a11 h11 hc x0 x1 x2 x3 x4 x5 x6) |>.trans (by
      unfold kernelRun0_A; dsimp only; sl_unfold_words
      rw [View.canon_cons_unit_zero (S := S1x2048) hz, View.readCov_unit_zero (S := S1x2048) _ hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])

/-- A later point: the accumulators go on from what the point before left. -/
theorem outB (hc : ¬cond0_0 i) :
    out0_B_7 c i a1 h1 a2 h2 a3 h3 a4 h4 a5 h5 a6 h6 a7 h7 a8 h8 a9 h9 a10 h10 a11 h11 hc x0 x1 x2 x3 x4 x5 x6 o8 o9 o10
      = k0_pay3 (k0_pay7 x0 x1) (k0_pay9 x2) (k0_pay10 x2) (k0_pay11 x4 x5) (k0_pay12 x0 x1 x2) x3
    ∧ out0_B_8 c i a1 h1 a2 h2 a3 h3 a4 h4 a5 h5 a6 h6 a7 h7 a8 h8 a9 h9 a10 h10 a11 h11 hc x0 x1 x2 x3 x4 x5 x6 o8 o9 o10
      = k0_pay14 x0 x1 o8
    ∧ out0_B_9 c i a1 h1 a2 h2 a3 h3 a4 h4 a5 h5 a6 h6 a7 h7 a8 h8 a9 h9 a10 h10 a11 h11 hc x0 x1 x2 x3 x4 x5 x6 o8 o9 o10
      = k0_pay1 x4 (k0_pay13 x0 x1 x2) o9
    ∧ out0_B_10 c i a1 h1 a2 h2 a3 h3 a4 h4 a5 h5 a6 h6 a7 h7 a8 h8 a9 h9 a10 h10 a11 h11 hc x0 x1 x2 x3 x4 x5 x6 o8 o9 o10
      = k0_pay2 (k0_pay8 x5) (k0_pay13 x0 x1 x2) o10 := by
  refine ⟨?_, ?_, ?_, ?_⟩
  · exact View.read_writes_eq_canon _ _ _ (cover0_B_7 c i a1 h1 a2 h2 a3 h3 a4 h4 a5 h5 a6 h6 a7 h7 a8 h8 a9 h9 a10 h10 a11 h11 hc x0 x1 x2 x3 x4 x5 x6 o8 o9 o10) |>.trans (by
      unfold kernelRun0_B; dsimp only; sl_unfold_words
      rw [View.canon_unit_zero (S := S256x2048) hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_B_8 c i a1 h1 a2 h2 a3 h3 a4 h4 a5 h5 a6 h6 a7 h7 a8 h8 a9 h9 a10 h10 a11 h11 hc x0 x1 x2 x3 x4 x5 x6 o8 o9 o10) |>.trans (by
      unfold kernelRun0_B; dsimp only; sl_unfold_words
      rw [View.canon_unit_zero (S := S1x2048) hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_B_9 c i a1 h1 a2 h2 a3 h3 a4 h4 a5 h5 a6 h6 a7 h7 a8 h8 a9 h9 a10 h10 a11 h11 hc x0 x1 x2 x3 x4 x5 x6 o8 o9 o10) |>.trans (by
      unfold kernelRun0_B; dsimp only; sl_unfold_words
      rw [View.canon_unit_zero (S := S1x2048) hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])
  · exact View.read_writes_eq_canon _ _ _ (cover0_B_10 c i a1 h1 a2 h2 a3 h3 a4 h4 a5 h5 a6 h6 a7 h7 a8 h8 a9 h9 a10 h10 a11 h11 hc x0 x1 x2 x3 x4 x5 x6 o8 o9 o10) |>.trans (by
      unfold kernelRun0_B; dsimp only; sl_unfold_words
      rw [View.canon_unit_zero (S := S1x2048) hz]
      simp only [View.readAt_eq_ld, h1.read_unread, h2.read_unread, h3.read_unread, h4.read_unread, h5.read_unread, h6.read_unread, h9.read_unread, h10.read_unread, h11.read_unread, View.ld_unit_zero (S := S256x5376) hz, View.ld_unit_zero (S := S5376x2048) hz,
        View.ld_unit_zero (S := S256x2048) hz, View.ld_unit_zero (S := S1x2048) hz])

end Cert.Kernel2Ideal.Block

end
-- ==== Proof.ZBwdKernel.lean ====
/-
  The arrays `z_proj_bwd_norm` leaves, on finite inputs: the accumulators by induction on the grid point, and the four
  result arrays in closed form.
-/
module

public import proofs.«01_k».proof.Proof.ZBwdBlock
public import proofs.«01_k».proof.Proof.ZBwdPoint
public import proofs.«01_k».proof.Proof.Gen.Kernel2Ideal.Value
public import Idealize.ShloMosaic.Lib.Pipeline.ValueKit

@[expose] public section

set_option maxRecDepth 16384

noncomputable section

namespace Cert.Kernel2Ideal.Block

open Idealize.ShloMosaic hiding ix0 ix1 ix2 ix3 ix4 ix5 eq_ix2
open Cert.Kernel2Ideal Cert.Kernel2Ideal.Gen Idealize.ShloMosaic.TcCoe ValueIdx Cert.Lift Cert.ZBwd
open Idealize.ShloMosaic.Pipeline (Dat)
open scoped BigOperators

/-- Row `p` of the rows point `t` takes. -/
def rowAt (t : ℕ) (p : Fin 256) : Fin 2048 := ⟨(256 * t + p.val) % 2048, Nat.mod_lt _ (by norm_num)⟩

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 1] ∧ win0_7.index t = ![t.val, 0] ∧ t.val < 8 :=
  (by decide +kernel : ∀ t : Fin grid0.N, _)

variable (D : S2048x5376.Idx → ℝ) (Wm : S2048x5376.Idx → ℝ) (X : S2048x2048.Idx → ℝ) (Y : S2048x2048.Idx → EReal) (G S : S1x2048.Idx → ℝ)

/-- The rows of `dz` at point `t`. -/
def dBlk (t : ℕ) : S256x5376.Idx → ℝ := fun j => D (ix2 (rowAt t (fst j)) (snd j))
/-- The tokens at point `t`. -/
def xBlk (t : ℕ) : S256x2048.Idx → ℝ := fun j => X (ix2 (rowAt t (fst j)) (snd j))
/-- The transposed weight. -/
def wT : S5376x2048.Idx → ℝ := fun j => Wm (ix2 (snd j) (fst j))

variable (m : (ℓ : Loc nD τ sig) → Buf (Elt Ideal) ℓ) (c : Dev nD)

/-- The finite arrays the program is started on. -/
structure Starts : Prop where
  dz : m ((c : Thread nD τ).loc main_arg0) = upB D
  w : m ((c : Thread nD τ).loc main_arg1) = upF Wm
  x : m ((c : Thread nD τ).loc main_arg2) = upF X
  y : m ((c : Thread nD τ).loc main_arg3) = Y
  g : m ((c : Thread nD τ).loc main_arg4) = upF G
  s : (fun j : S1x2048.Idx => m ((c : Thread nD τ).loc main_arg5) (ix2 (0 : Fin 1) (⟨2048 + (snd j).val, by omega⟩ : Fin 6144))) = upF S

variable {D Wm X Y G S m c}
variable (h : Starts D Wm X Y G S m c)
include h

theorem blk0 (t : Fin cfg0.N) : iblk m c 0 t = upB (dBlk D t.val) := by
  funext j
  have := idx t
  show V m c main_arg0 _ = _
  rw [V_main_arg0, h.dz]
  show ((D _ : ℝ) : EReal) = ((D _ : ℝ) : EReal)
  congr 2
  unfold rowAt
  blk_ext [idx t]
  show t.val * 256 + (j 0).val = (256 * t.val + (j 0).val) % 2048
  omega

theorem blk1 (t : Fin cfg0.N) : iblk m c 1 t = upB (wT Wm) := by
  have e : V m c main_v1 = upB (wT Wm) := by
    show StableHlo.after hostOps0 _ (Proc.devRef .tc main_v1) = _
    after_results
    rw [show m (c, Proc.tc.devRef main_arg1) = upF Wm from h.w]
    exact congrArg up (funext fun j => by
      exact congrArg Wm (eq_ix2 _))
  funext j
  show V m c main_v1 _ = _
  rw [e]
  show ((wT Wm _ : ℝ) : EReal) = ((wT Wm _ : ℝ) : EReal)
  congr 2
  blk_ext [idx t]

theorem blk2 (t : Fin cfg0.N) : iblk m c 2 t = upF (xBlk X t.val) := by
  funext j
  have := idx t
  show V m c main_arg2 _ = _
  rw [V_main_arg2, h.x]
  show ((X _ : ℝ) : EReal) = ((X _ : ℝ) : EReal)
  congr 2
  unfold rowAt
  blk_ext [idx t]
  show t.val * 256 + (j 0).val = (256 * t.val + (j 0).val) % 2048
  omega

theorem blk3 (t : Fin cfg0.N) : iblk m c 3 t = fun j : S256x2048.Idx => Y (ix2 (rowAt t.val (fst j)) (snd j)) := by
  funext j
  have := idx t
  show V m c main_arg3 _ = _
  rw [V_main_arg3, h.y]
  unfold rowAt
  blk_ext [idx t]
  show t.val * 256 + (j 0).val = (256 * t.val + (j 0).val) % 2048
  omega

theorem blk4 (t : Fin cfg0.N) : iblk m c 4 t = upF G := by
  funext j
  show V m c main_arg4 _ = _
  rw [V_main_arg4, h.g]
  show ((G _ : ℝ) : EReal) = ((G _ : ℝ) : EReal)
  congr 2
  blk_ext [idx t]

theorem blk5 (t : Fin cfg0.N) : iblk m c 5 t = upF S := by
  funext j
  rw [← h.s]
  show V m c main_arg5 _ = _
  rw [V_main_arg5]
  blk_ext [idx t]

/-- What point `t` adds to the column sums of `dh`, -/
def term8 (D : S2048x5376.Idx → ℝ) (Wm : S2048x5376.Idx → ℝ) (t : ℕ) (j : Fin 2048) : ℝ := dhSum (dBlk D t) (wT Wm) j
/-- and to those of `dh` times the normalised token. -/
def termX (D : S2048x5376.Idx → ℝ) (Wm : S2048x5376.Idx → ℝ) (X : S2048x2048.Idx → ℝ) (t : ℕ) (j : Fin 2048) : ℝ :=
  dxnSum (dBlk D t) (wT Wm) (xBlk X t) j

/-- The gradient of the tokens. -/
def gxAt (D : S2048x5376.Idx → ℝ) (Wm : S2048x5376.Idx → ℝ) (X : S2048x2048.Idx → ℝ) (Y : S2048x2048.Idx → EReal)
    (G S : S1x2048.Idx → ℝ) (i j : Fin 2048) : EReal :=
  Y (ix2 i j) + ((gxRow (dhRow (rowOf D i) (rowOf Wm)) (rowOf X i) (rowOf G 0) (rowOf S 0) j : ℝ) : EReal)

/-- The gradient rows of a point, whichever the case. -/
theorem out7 (t : Fin cfg0.N) : (outsAt0 m c t.val t.isLt).1 = fun j : S256x2048.Idx => gxAt D Wm X Y G S (rowAt t.val (fst j)) (snd j) := by
  by_cases h0 : t.val % 8 = 0
  · rw [outsAt0_A m c t h0]
    dsimp only
    rw [(outA ..).1, blk0 h t, blk1 h t, blk2 h t, blk3 h t, blk4 h t, blk5 h t, pay3]
    rfl
  · rw [outsAt0_B m c t h0]
    dsimp only
    rw [(outB ..).1, blk0 h t, blk1 h t, blk2 h t, blk3 h t, blk4 h t, blk5 h t, pay3]
    rfl

/-- What the accumulators hold after a point. -/
theorem accs (n : ℕ) (hn : n < cfg0.N) : (outsAt0 m c n hn).2 =
    (upF (fun j => ∑ t ∈ Finset.range (n + 1), term8 D Wm t (snd j)),
     upF (fun j => ∑ t ∈ Finset.range (n + 1), termX D Wm X t (snd j) * G j),
     upF (fun j => ∑ t ∈ Finset.range (n + 1), termX D Wm X t (snd j) * (1 + S j))) := by
  have hz (f : S1x2048.Idx → ℝ) : (fun j => (0 : ℝ) + f j) = f := funext fun j => zero_add _
  induction n with
  | zero =>
    obtain ⟨t0, ht⟩ : ∃ t0 : Fin cfg0.N, t0.val = 0 := ⟨⟨0, hn⟩, rfl⟩
    have e := outsAt0_A m c t0 (by rw [ht])
    obtain ⟨-, e8, e9, e10⟩ := outA (F := Ideal) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0)
      (iblk m c 0 t0) (iblk m c 1 t0) (iblk m c 2 t0) (iblk m c 3 t0) (iblk m c 4 t0) (iblk m c 5 t0) (iblk m c 6 t0) ((hcond0_0 t0).mpr (by rw [ht]))
    rw [e8, e9, e10, blk0 h, blk1 h, blk2 h, blk4 h, blk5 h, pay13, pay8, show k0_pay4 (F := Ideal) = upF (fun _ => 0) from up_splat 0 _ lit_zero,
      show k0_pay5 (F := Ideal) = upF (fun _ => 0) from up_splat 0 _ lit_zero,
      show k0_pay6 (F := Ideal) = upF (fun _ => 0) from up_splat 0 _ lit_zero, pay14, pay1, pay2, hz, hz, hz] at e
    have e' : outsAt0 m c 0 hn = outsAt0 m c t0.val t0.isLt := by congr 1; exact ht.symm
    rw [e', e]
    simp only [ht]
    exact Prod.ext (congrArg upF (funext fun j => (Finset.sum_range_one fun t => term8 D Wm t (snd j)).symm))
      (Prod.ext (congrArg upF (funext fun j => (Finset.sum_range_one fun t => termX D Wm X t (snd j) * G j).symm))
        (congrArg upF (funext fun j => (Finset.sum_range_one fun t => termX D Wm X t (snd j) * (1 + S j)).symm)))
  | succ n ih =>
    obtain ⟨t0, ht⟩ : ∃ t0 : Fin cfg0.N, t0.val = n + 1 := ⟨⟨n + 1, hn⟩, rfl⟩
    have h8 : t0.val < 8 := (idx t0).2.2.2.2.2.2.2
    have hc : ¬t0.val % 8 = 0 := by omega
    have e := outsAt0_B m c t0 hc
    have hp : outsAt0 m c (t0.val - 1) (Nat.lt_of_le_of_lt (Nat.sub_le _ _) t0.isLt) = outsAt0 m c n (Nat.lt_of_succ_lt hn) := by
      congr 1; omega
    have e' : outsAt0 m c (n + 1) hn = outsAt0 m c t0.val t0.isLt := by congr 1; exact ht.symm
    rw [hp, ih] at e
    dsimp only at e
    obtain ⟨-, e8, e9, e10⟩ := outB (F := Ideal) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0)
      (iblk m c 0 t0) (iblk m c 1 t0) (iblk m c 2 t0) (iblk m c 3 t0) (iblk m c 4 t0) (iblk m c 5 t0) (iblk m c 6 t0) (upF (fun j => ∑ t ∈ Finset.range (n + 1), term8 D Wm t (snd j)))
      (upF (fun j => ∑ t ∈ Finset.range (n + 1), termX D Wm X t (snd j) * G j))
      (upF (fun j => ∑ t ∈ Finset.range (n + 1), termX D Wm X t (snd j) * (1 + S j))) (fun h => hc ((hcond0_0 t0).mp h))
    rw [e8, e9, e10, blk0 h, blk1 h, blk2 h, blk4 h, blk5 h, pay13, pay8, pay14, pay1, pay2] at e
    rw [e', e]
    simp only [ht]
    exact Prod.ext (congrArg upF (funext fun j => (Finset.sum_range_succ _ (n + 1)).symm))
      (Prod.ext (congrArg upF (funext fun j => (Finset.sum_range_succ _ (n + 1)).symm))
        (congrArg upF (funext fun j => (Finset.sum_range_succ _ (n + 1)).symm)))

omit h in
/-- A sum of the points' terms is the sum over all rows. -/
theorem sum_points (f : Fin 2048 → ℝ) : ∑ t ∈ Finset.range 8, ∑ p : Fin 256, f (rowAt t p) = ∑ i, f i := by
  rw [sum_blocks 8 256 2048 rfl f, Finset.sum_range]
  refine Finset.sum_congr rfl fun t _ => Finset.sum_congr rfl fun p _ => congrArg f (Fin.ext ?_)
  have := t.isLt; have := p.isLt
  show (256 * t.val + p.val) % 2048 = 256 * t.val + p.val
  omega

/-- The gradient of the tokens, the whole array. -/
theorem final7 : (dats m 0 c).arrAt 7 cfg0.N = fun j : S2048x2048.Idx => gxAt D Wm X Y G S (fst j) (snd j) := by
  refine (dats m 0 c).arrAt_eq_of_covers 7 _ (by decide +kernel) fun t _ y => ?_
  blk_simp
  rw [after0_7, out7 h t]
  refine congrArg₂ (gxAt D Wm X Y G S) (Fin.ext ?_) (Fin.ext ?_)
  · have := (idx t).2.2.2.2.2.2.2
    show (256 * t.val + (fst y).val) % 2048 = (((win0_7.blk t).view.emb y) 0).val
    blk_simp [idx t]
    have := (fst y).isLt
    show (256 * t.val + (fst y).val) % 2048 = t.val * 256 + (fst y).val
    omega
  · show (snd y).val = (((win0_7.blk t).view.emb y) 1).val
    blk_simp [idx t]

theorem final8 : (dats m 0 c).arrAt 8 cfg0.N
    = upF (fun j : S1x2048.Idx => ∑ i, dhRow (rowOf D i) (rowOf Wm) (snd j)) := by
  refine (dats m 0 c).arrAt_eq_of_after_last 8 t0_7 (by decide +kernel) _ fun j => ?_
  blk_simp
  rw [after0_8, accs h t0_7.val t0_7.isLt]
  exact congrArg (fun r : ℝ => (r : EReal)) (sum_points fun i => dhRow (rowOf D i) (rowOf Wm) (snd j))

theorem final9 : (dats m 0 c).arrAt 9 cfg0.N
    = upF (fun j : S1x2048.Idx => (∑ i, dhRow (rowOf D i) (rowOf Wm) (snd j) * (X (ix2 i (snd j)) * rms (rowOf X i))) * G j) := by
  refine (dats m 0 c).arrAt_eq_of_after_last 9 t0_7 (by decide +kernel) _ fun j => ?_
  blk_simp
  rw [after0_9, accs h t0_7.val t0_7.isLt]
  refine congrArg (fun r : ℝ => (r : EReal)) ?_
  show ∑ t ∈ Finset.range 8, termX D Wm X t (snd j) * G j = _ * G j
  rw [← Finset.sum_mul]
  exact congrArg (· * G j) (sum_points fun i => dhRow (rowOf D i) (rowOf Wm) (snd j) * (X (ix2 i (snd j)) * rms (rowOf X i)))

theorem final10 : (dats m 0 c).arrAt 10 cfg0.N
    = upF (fun j : S1x2048.Idx => (∑ i, dhRow (rowOf D i) (rowOf Wm) (snd j) * (X (ix2 i (snd j)) * rms (rowOf X i))) * (1 + S j)) := by
  refine (dats m 0 c).arrAt_eq_of_after_last 10 t0_7 (by decide +kernel) _ fun j => ?_
  blk_simp
  rw [after0_10, accs h t0_7.val t0_7.isLt]
  refine congrArg (fun r : ℝ => (r : EReal)) ?_
  show ∑ t ∈ Finset.range 8, termX D Wm X t (snd j) * (1 + S j) = _ * (1 + S j)
  rw [← Finset.sum_mul]
  exact congrArg (· * (1 + S j)) (sum_points fun i => dhRow (rowOf D i) (rowOf Wm) (snd j) * (X (ix2 i (snd j)) * rms (rowOf X i)))

end Cert.Kernel2Ideal.Block

end
-- ==== Proof.ZBwdRef.lean ====
/-
  The reference of `z_proj_bwd_norm` on finite inputs: the gradient of `h @ w_in` through the adaptive RMS norm, as its
  operations compute it, in the real formulas of the kernel's.
-/
module

public import proofs.«01_k».proof.Proof.ZBwdBlock
public import proofs.«01_k».proof.Proof.Gen.Reference2Ideal.Read

@[expose] public section

set_option maxRecDepth 16384

noncomputable section

namespace Cert.Reference2Ideal.Lifted

open Idealize.ShloMosaic
open Cert.Reference2Ideal Cert.Reference2Ideal.Gen Cert.Reference2Ideal.Read Idealize.ShloMosaic.TcCoe ValueIdx Cert.Lift Cert.ZBwd
open scoped BigOperators

abbrev rowOf {n m : Nat} (v : (⟨2, ![n, m]⟩ : Shape).Idx → ℝ) (p : Fin n) : Fin m → ℝ := fun k => v (ix2 p k)
abbrev upF {s : Shape} (v : s.Idx → ℝ) : FVec Ideal s .f32 := up v
abbrev upB {s : Shape} (v : s.Idx → ℝ) : FVec Ideal s .bf16 := up v

variable (D : S2048x5376.Idx → ℝ) (Wm : S2048x5376.Idx → ℝ) (X : S2048x2048.Idx → ℝ) (Y : S2048x2048.Idx → EReal) (G S : S1x2048.Idx → ℝ)
variable (mod : FVec Ideal S1x6144 .f32) (hS : extractStridedSlice S1x2048 ![0, 2048] mod slices_S1x6144_S1x2048_0_2048 = upF S)

/-- A host sum of real numbers, from zero. -/
theorem zero_sum {n : Nat} {z : EReal} (hz : z = ((0 : ℝ) : EReal)) {g : Fin n → EReal} (f : Fin n → ℝ)
    (h : ∀ k, g k = ((f k : ℝ) : EReal)) : z + ∑ k, g k = ((∑ k, f k : ℝ) : EReal) := by
  rw [hz, EReal.coe_zero, zero_add, Finset.sum_congr rfl fun k _ => h k]
  exact coe_sum _ f

/-- A constant broadcast. -/
theorem bc_const {s t : Shape} (r : ℝ) (d : Fin s.rank → Fin t.rank) (h : s.BroadcastsInDim t d) :
    broadcastInDim t d h (upF fun _ => r) = upF fun _ => r := rfl

/-- An index of a one-row array is in row 0. -/
theorem row_zero (j : S1x2048.Idx) : j = ix2 0 (snd j) := by
  exact (eq_ix2 j).trans (congrArg (fun a => ix2 a (snd j)) (Fin.ext (by have := (fst j).isLt; omega) : fst j = 0))

/-- An entry of column `j` of a matrix, the column read off a one-row array through a reshape. -/
theorem col (j : S1x2048.Idx) (k : Fin 2048) (y : S2048x2048.Idx) (h0 : fst y = k)
    (h1 : (snd y).val = (fst j).val * 2048 + (snd j).val := by rfl) : y = ix2 k (snd j) := by
  refine (eq_ix2 y).trans ?_
  have := (fst j).isLt
  rw [show (y 0) = k from h0, show (y 1) = snd j from Fin.ext (by rw [h1]; omega)]
  rfl

theorem v9 : val_main_v9 (F := Ideal) (upF X) = upF fun i => msq (rowOf X (fst i)) := by
  have e5 : val_main_v5 (F := Ideal) (upF X) = upF fun i => ∑ k, X (ix2 (fst i) k) * X (ix2 (fst i) k) := by
    funext i
    rw [val_main_v5_apply, val_main_v4_apply]
    refine zero_sum lit_zero _ fun k => ?_
    rw [val_main_v3_apply, show idx_main_v4 (idx_main_v5 i) k = ix2 (fst i) k from eq_ix2 _, EReal.coe_mul]
    rfl
  unfold val_main_v9 val_main_v7 val_main_v6 val_main_v8 val_main_cst_0 val_main_cst_1
  rw [e5, up_constant 2048 _ lit_2048, up_constant eps _ lit_eps, bc_const, bc_const,
    up_hostDivf _ _ (fun _ => show (2048 : ℝ) ≠ 0 by norm_num), up_addf]
  rfl

theorem v10 : val_main_v10 (F := Ideal) (upF X) = upF fun i => rms (rowOf X (fst i)) := by
  unfold val_main_v10
  rw [v9]
  exact up_hostRsqrt _ fun i => msq_pos _

theorem v13 : val_main_v13 (F := Ideal) (upF X) = upF fun i => -1/2 * (rms (rowOf X (fst i)) / msq (rowOf X (fst i))) := by
  unfold val_main_v13 val_main_v11 val_main_v12 val_main_cst_2
  rw [v9, v10, up_constant _ _ lit_neg_half, up_broadcastInDim, up_hostDivf _ _ fun i => (msq_pos _).ne', up_mulf]
  rfl

theorem v15 : val_main_v15 (F := Ideal) (upF X) = upF fun i => X i * rms (rowOf X (fst i)) := by
  funext i
  rw [val_main_v15_apply, val_main_v14_apply, v10]
  exact (EReal.coe_mul _ _).symm

theorem v17 : val_main_v17 (F := Ideal) (upF X) (upF G) = upF fun i => X i * rms (rowOf X (fst i)) * G (ix2 0 (snd i)) := by
  funext i
  rw [val_main_v17_apply, val_main_v16_apply, v15, show idx_main_v16 i = ix2 0 (snd i) from eq_ix2 _]
  exact (EReal.coe_mul _ _).symm

theorem v26 : val_main_v26 (F := Ideal) (upB D) (upF Wm) = upF fun i => dhRow (rowOf D (fst i)) (rowOf Wm) (snd i) := by
  funext i
  rw [val_main_v26_apply]
  have e (k : Fin 5376) : val_main_v25 (F := Ideal) (upB D) (lidx_main_v26 i k) * upF Wm (ridx_main_v26 i k)
      = ((D (ix2 (fst i) k) * Wm (ix2 (snd i) k) : ℝ) : EReal) := by
    rw [show lidx_main_v26 i k = ix2 (fst i) k from eq_ix2 _, show ridx_main_v26 i k = ix2 (snd i) k from eq_ix2 _, EReal.coe_mul]
    rfl
  simp only [e]
  exact coe_sum _ _

/-- The gradient of the shift. -/
theorem v28 : val_main_v28 (F := Ideal) (upB D) (upF Wm) = upF fun j => ∑ i, dhRow (rowOf D i) (rowOf Wm) (snd j) := by
  funext j
  rw [val_main_v28_apply, val_main_v27_apply, v26]
  refine zero_sum lit_zero _ fun k => ?_
  rw [show idx_main_v27 (idx_main_v28 j) k = ix2 k (snd j) from col j k _ rfl]
  rfl

/-- The gradient of the scale. -/
theorem v31 : val_main_v31 (F := Ideal) (upB D) (upF Wm) (upF X) (upF G)
    = upF fun j => (∑ i, dhRow (rowOf D i) (rowOf Wm) (snd j) * (X (ix2 i (snd j)) * rms (rowOf X i))) * G j := by
  funext j
  rw [val_main_v31_apply, val_main_v30_apply]
  refine Eq.trans (zero_sum lit_zero (fun i => dhRow (rowOf D i) (rowOf Wm) (snd j) * (X (ix2 i (snd j)) * rms (rowOf X i)) * G j) fun k => ?_)
    (congrArg (fun r : ℝ => (r : EReal)) (Finset.sum_mul ..).symm)
  rw [val_main_v29_apply, v26, v17, show idx_main_v30 (idx_main_v31 j) k = ix2 k (snd j) from col j k _ rfl]
  refine (EReal.coe_mul _ _).symm.trans (congrArg (fun r : ℝ => (r : EReal)) ?_)
  rw [show G j = G (ix2 0 (snd j)) from congrArg G (row_zero j)]
  show X (ix2 k (snd j)) * rms (rowOf X k) * G (ix2 0 (snd j)) * dhRow (rowOf D k) (rowOf Wm) (snd j) = _
  ring

include hS

theorem v19 : val_main_v19 (F := Ideal) mod = upF fun i => 1 + S i := by
  unfold val_main_v19 val_main_v1 val_main_v18 val_main_cst_3
  rw [hS, up_constant _ _ lit_one, up_broadcastInDim, up_addf]
  rfl

theorem v33 : val_main_v33 (F := Ideal) (upB D) (upF Wm) mod
    = upF fun i => dhRow (rowOf D (fst i)) (rowOf Wm) (snd i) * (1 + S (ix2 0 (snd i))) := by
  funext i
  rw [val_main_v33_apply, val_main_v32_apply, v26, v19 S mod hS, show idx_main_v32 i = ix2 0 (snd i) from eq_ix2 _]
  exact (EReal.coe_mul _ _).symm

/-- The gradient of the norm's gain. -/
theorem v36 : val_main_v36 (F := Ideal) (upB D) (upF Wm) (upF X) mod
    = upF fun j => (∑ i, dhRow (rowOf D i) (rowOf Wm) (snd j) * (X (ix2 i (snd j)) * rms (rowOf X i))) * (1 + S j) := by
  funext j
  rw [val_main_v36_apply, val_main_v35_apply]
  refine Eq.trans (zero_sum lit_zero (fun i => dhRow (rowOf D i) (rowOf Wm) (snd j) * (X (ix2 i (snd j)) * rms (rowOf X i)) * (1 + S j)) fun k => ?_)
    (congrArg (fun r : ℝ => (r : EReal)) (Finset.sum_mul ..).symm)
  rw [val_main_v34_apply, v15, v33 D Wm S mod hS, show idx_main_v35 (idx_main_v36 j) k = ix2 k (snd j) from col j k _ rfl]
  refine (EReal.coe_mul _ _).symm.trans (congrArg (fun r : ℝ => (r : EReal)) ?_)
  rw [show S j = S (ix2 0 (snd j)) from congrArg S (row_zero j)]
  show X (ix2 k (snd j)) * rms (rowOf X k) * (dhRow (rowOf D k) (rowOf Wm) (snd j) * (1 + S (ix2 0 (snd j)))) = _
  ring

/-- What reaches a normalised entry, times the gain. -/
def gain (i j : Fin 2048) : ℝ := dhRow (rowOf D i) (rowOf Wm) j * (1 + S (ix2 0 j)) * G (ix2 0 j)

theorem v38 : val_main_v38 (F := Ideal) (upB D) (upF Wm) (upF G) mod = upF fun i => gain D Wm G S (fst i) (snd i) := by
  funext i
  rw [val_main_v38_apply, val_main_v37_apply, v33 D Wm S mod hS, show idx_main_v37 i = ix2 0 (snd i) from eq_ix2 _]
  exact (EReal.coe_mul _ _).symm

/-- What reaches the mean square of a row. -/
def toMsq (i : Fin 2048) : ℝ :=
  (∑ k, X (ix2 i k) * gain D Wm G S i k) * (-1/2 * (rms (rowOf X i) / msq (rowOf X i))) / 2048

theorem v47 : val_main_v47 (F := Ideal) (upB D) (upF Wm) (upF X) (upF G) mod = upF fun i => toMsq D Wm X G S (fst i) := by
  have e41 : val_main_v41 (F := Ideal) (upB D) (upF Wm) (upF X) (upF G) mod
      = upF fun i => ∑ k, X (ix2 (fst i) k) * gain D Wm G S (fst i) k := by
    funext i
    rw [val_main_v41_apply, val_main_v40_apply]
    refine zero_sum lit_zero _ fun k => ?_
    have e : idx_main_v40 (idx_main_v41 i) k = ix2 (fst i) k := by
      refine (eq_ix2 _).trans ?_
      have := (snd i).isLt
      exact congrArg (fun a => ix2 a k) (Fin.ext (show (fst i).val * 1 + (snd i).val = (fst i).val by omega))
    rw [val_main_v39_apply, v38 D Wm G S mod hS, e]
    exact (EReal.coe_mul _ _).symm
  unfold val_main_v47 val_main_v45 val_main_v46 val_main_cst_8
  rw [e41, v13, up_constant 2048 _ lit_2048, bc_const, up_mulf, up_hostDivf _ _ (fun _ => show (2048 : ℝ) ≠ 0 by norm_num)]
  rfl

omit hS in
/-- The chain rule's three terms are the row formula: `r / (mean x² + eps) = r³`. -/
theorem row_gradient (i j : Fin 2048) : gain D Wm G S i j * rms (rowOf X i) + (X (ix2 i j) * toMsq D Wm X G S i + toMsq D Wm X G S i * X (ix2 i j))
    = gxRow (dhRow (rowOf D i) (rowOf Wm)) (rowOf X i) (rowOf G 0) (rowOf S 0) j := by
  have hr : rms (rowOf X i) / msq (rowOf X i) = rms (rowOf X i) * (rms (rowOf X i) * rms (rowOf X i)) := by
    rw [div_eq_mul_inv]
    congr 1
    unfold rms
    rw [← mul_inv, Real.mul_self_sqrt (msq_pos _).le]
  have hs : (∑ k, dhRow (rowOf D i) (rowOf Wm) k * (rowOf X i k * rms (rowOf X i)) * ((1 + rowOf S 0 k) * rowOf G 0 k))
      = (∑ k, X (ix2 i k) * gain D Wm G S i k) * rms (rowOf X i) := by
    rw [Finset.sum_mul]
    refine Finset.sum_congr rfl fun k _ => ?_
    unfold gain
    ring
  unfold gxRow toMsq
  rw [hs, hr]
  generalize ∑ k, X (ix2 i k) * gain D Wm G S i k = A
  unfold gain
  ring

/-- The gradient of the tokens. -/
theorem v53 : val_main_v53 (F := Ideal) (upB D) (upF Wm) (upF X) Y (upF G) mod
    = fun j => Y j + ((gxRow (dhRow (rowOf D (fst j)) (rowOf Wm)) (rowOf X (fst j)) (rowOf G 0) (rowOf S 0) (snd j) : ℝ) : EReal) := by
  funext j
  have e49 : val_main_v49 (F := Ideal) (upB D) (upF Wm) (upF X) (upF G) mod j = ((toMsq D Wm X G S (fst j) : ℝ) : EReal) := by
    rw [val_main_v49_apply, val_main_v48_apply, v47 D Wm X G S mod hS]
    refine (zero_sum lit_zero (fun _ => toMsq D Wm X G S (fst j)) fun k => rfl).trans ?_
    simp
  have e43 : val_main_v43 (F := Ideal) (upB D) (upF Wm) (upF X) (upF G) mod j
      = ((gain D Wm G S (fst j) (snd j) * rms (rowOf X (fst j)) : ℝ) : EReal) := by
    rw [val_main_v43_apply, val_main_v42_apply, v38 D Wm G S mod hS, v10]
    exact (EReal.coe_mul _ _).symm
  rw [val_main_v53_apply, val_main_v52_apply, val_main_v51_apply, val_main_v50_apply, val_main_v44_apply, e49, e43]
  show Y j + _ + ((X j : ℝ) : EReal) * _ + _ * ((X j : ℝ) : EReal) = _
  rw [← EReal.coe_mul, ← EReal.coe_mul, add_assoc, add_assoc, ← EReal.coe_add, ← EReal.coe_add]
  refine congrArg (fun r : ℝ => Y j + (r : EReal)) ?_
  rw [show X j = X (ix2 (fst j) (snd j)) from congrArg X (eq_ix2 j)]
  exact row_gradient D Wm X G S (fst j) (snd j)

end Cert.Reference2Ideal.Lifted

end
-- ==== Proof.ZBwdClaim.lean ====
/-
  The value claim of `z_proj_bwd_norm`: on finite `dz`, weight, tokens, gain and scale (the cotangent `dx2` and the rest
  of the modulation may hold anything), the four arrays the kernel leaves are the four the reference leaves.
-/
module

public import proofs.«01_k».proof.Defs
public import proofs.«01_k».proof.Proof.ZBwdKernel
public import proofs.«01_k».proof.Proof.ZBwdRef
public import proofs.«01_k».proof.Proof.Gen.Pre_finite2
public import Idealize.ShloMosaic.Lib.Quiescent

@[expose] public section

set_option maxRecDepth 16384

noncomputable section

namespace Cert.ZBwd

open Idealize.ShloMosaic Idealize.SL.Sem Idealize.ShloMosaic.TcCoe Cert.Lift

/-- "Every absolute value is below plus infinity" makes an array one of real numbers. -/
theorem reals_of_cmp {φ : FTy} {s z : Shape} (x : FVec Ideal s φ) (b : BitVec φ.bits) (hb : (FloatOps.ofBits φ b : Ideal φ) = (⊤ : EReal))
    (d : Fin z.rank → Fin s.rank) (hd : z.BroadcastsInDim s d)
    (h : cmpf .olt (Host.absf x) (broadcastInDim s d hd (constant z φ b)) = fun _ => 1#1) : ∃ v : s.Idx → ℝ, x = up v :=
  exists_up x fun i => finite_of_abs_lt (by
    have := congrFun h i
    rw [← hb]
    exact this)

theorem inf32 : (FloatOps.ofBits .f32 0x7F800000#32 : Ideal .f32) = (⊤ : EReal) := by
  show Ideal.ofBits .f32 _ = _
  simp [Ideal.ofBits, Ideal.ieee]

theorem inf16 : (FloatOps.ofBits .bf16 0x7F80#16 : Ideal .bf16) = (⊤ : EReal) := by
  show Ideal.ofBits .bf16 _ = _
  simp [Ideal.ofBits, Ideal.ieee]

/-- The reference's frame: it declares no semaphore. -/
theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The scale's columns of the modulation, sliced or indexed. -/
theorem slice_scale (x : FVec Ideal Cert.Reference2Ideal.S1x6144 .f32) :
    extractStridedSlice Cert.Reference2Ideal.S1x2048 ![0, 2048] x Cert.Reference2Ideal.Gen.slices_S1x6144_S1x2048_0_2048
      = fun j : Cert.Reference2Ideal.S1x2048.Idx => x (ValueIdx.ix2 (0 : Fin 1) (⟨2048 + (snd j).val, by have := (snd j).isLt; omega⟩ : Fin 6144)) := by
  funext j
  refine extractStridedSlice_apply _ x _ j _ fun a => ?_
  match a with
  | ⟨0, _⟩ =>
    have : (fst j).val < 1 := (fst j).isLt
    show 0 = 0 + (fst j).val
    omega
  | ⟨1, _⟩ => rfl

theorem algebraic : Cert.algebraic_Kernel2Ideal_Reference2Ideal_pre_finite2 := by
  intro m g m' g' hpre hargs
  have hst (c : Dev Cert.Kernel2Ideal.nD) : ∃ D Wm X Y G S, Cert.Kernel2Ideal.Block.Starts D Wm X Y G S m c := by
    obtain ⟨hd, hw, hx, hg, hs⟩ := hpre c
    obtain ⟨D, hD⟩ := reals_of_cmp _ _ inf16 _ _ hd
    obtain ⟨Wm, hW⟩ := reals_of_cmp _ _ inf32 _ _ hw
    obtain ⟨X, hX⟩ := reals_of_cmp _ _ inf32 _ _ hx
    obtain ⟨G, hG⟩ := reals_of_cmp _ _ inf32 _ _ hg
    obtain ⟨S, hS⟩ := reals_of_cmp _ _ inf32 _ _ hs
    exact ⟨D, Wm, X, _, G, S, hD, hW, hX, rfl, hG, (slice_scale _).symm.trans hS⟩
  refine ⟨_, _, _, _, (θ_run Cert.Kernel2Ideal.defs _ _).mono (fun r h c => h c) (Cert.Kernel2Ideal.Value.run_blocks m g), ?_⟩
  refine (θ_run Cert.Reference2Ideal.defs _ _).mono (fun r h c => ?_) (Cert.Reference2Ideal.Value.run (F := Ideal) m' g')
  obtain ⟨h0, h1, h2, h3, hk⟩ := h c
  obtain ⟨a0, a1, a2, a3, a4, a5, -⟩ := hargs c
  obtain ⟨D, Wm, X, Y, G, S, hs⟩ := hst c
  have e0 := a0.trans hs.dz
  have e1 := a1.trans hs.w
  have e2 := a2.trans hs.x
  have e3 := a3.trans hs.y
  have e4 := a4.trans hs.g
  have e5 := (slice_scale (m' ((c.tc : Thread Cert.Reference2Ideal.nD Cert.Reference2Ideal.τ).loc Cert.Reference2Ideal.main_arg5))).trans
    ((congrArg (fun x => fun j : Cert.Reference2Ideal.S1x2048.Idx => x (ValueIdx.ix2 (0 : Fin 1) (⟨2048 + (snd j).val, by have := (snd j).isLt; omega⟩ : Fin 6144))) a5).trans hs.s)
  refine ⟨h0.trans ?_, h1.trans ?_, h2.trans ?_, h3.trans ?_, hk⟩
  · rw [Cert.Reference2Ideal.Read.val_main_v53_eq, e0, e1, e2, e3, e4]
    exact ((Cert.Reference2Ideal.Lifted.v53 D Wm X Y G S _ e5).trans
      (funext fun j => congrArg (fun i => Y i + _) (ValueIdx.eq_ix2 j))).trans (Cert.Kernel2Ideal.Block.final7 hs).symm
  · refine (Cert.Reference2Ideal.Read.val_main_v28_eq _ _).trans ?_
    rw [e0, e1]
    exact (Cert.Reference2Ideal.Lifted.v28 D Wm).trans (Cert.Kernel2Ideal.Block.final8 hs).symm
  · refine (Cert.Reference2Ideal.Read.val_main_v31_eq _ _ _ _).trans ?_
    rw [e0, e1, e2, e4]
    exact (Cert.Reference2Ideal.Lifted.v31 D Wm X G).trans (Cert.Kernel2Ideal.Block.final9 hs).symm
  · refine (Cert.Reference2Ideal.Read.val_main_v36_eq _ _ _ _).trans ?_
    rw [e0, e1, e2]
    exact (Cert.Reference2Ideal.Lifted.v36 D Wm X S _ e5).trans (Cert.Kernel2Ideal.Block.final10 hs).symm

end Cert.ZBwd

end
-- ==== Proof.HeadMath.lean ====
/-
  One token of the loss head over the extended reals: the residual stream, its RMSNorm, the error against the target,
  and the gradient of the mean square error back to the stream, as the kernel computes it and as the chain rule writes
  it. The two gradients are the same extended real for any inputs.
-/
module

public import proofs.«01_k».proof.Proof.Lift

@[expose] public section

noncomputable section

namespace Cert.Head

open Idealize.ShloMosaic Cert.Lift
open scoped BigOperators

/-- A row of 2048 numbers. -/
abbrev Row := Fin 2048 → EReal

/-- 2048, as the programs write it. -/
abbrev c2048 : EReal := Ideal.ofBits .f32 0x45000000#32
/-- The number under the square root. -/
abbrev cEps : EReal := Ideal.ofBits .f32 0x358637BD#32
/-- The 2048th part. -/
abbrev cPart : EReal := Ideal.ofBits .f32 0x3A000000#32
/-- One half. -/
abbrev cHalf : EReal := Ideal.ofBits .f32 0x3F000000#32
/-- One. -/
abbrev cOne : EReal := Ideal.ofBits .f32 0x3F800000#32
/-- Two. -/
abbrev cTwo : EReal := Ideal.ofBits .f32 0x40000000#32
/-- Minus one half. -/
abbrev cNegHalf : EReal := Ideal.ofBits .f32 0xBF000000#32

theorem c2048_eq : c2048 = ((2048 : ℝ) : EReal) := lit_2048
theorem cEps_eq : cEps = ((eps : ℝ) : EReal) := lit_eps
theorem cHalf_eq : cHalf = ((1 / 2 : ℝ) : EReal) := lit_half
theorem cOne_eq : cOne = ((1 : ℝ) : EReal) := lit_one
theorem cNegHalf_eq : cNegHalf = ((-1 / 2 : ℝ) : EReal) := lit_neg_half
theorem cTwo_eq : cTwo = ((2 : ℝ) : EReal) := by
  simp [Ideal.ofBits, Ideal.ieee, -EReal.coe_mul]; norm_num
theorem cPart_eq : cPart = ((1 / 2048 : ℝ) : EReal) := by
  simp [Ideal.ofBits, Ideal.ieee, -EReal.coe_mul]; norm_num

/-- The projected row. -/
def proj (w : Fin 2048 → Row) (a : Row) : Row := fun j => ∑ k, a k * w k j
/-- The token after the gated residual. -/
def tok (w : Fin 2048 → Row) (g a x : Row) : Row := fun j => x j + g j * proj w a j
/-- The mean square, with the small number. -/
def ms (u : Row) : EReal := Ideal.div (∑ k, u k * u k) c2048 + cEps
/-- Its inverse root. -/
def inv (u : Row) : EReal := Ideal.rsqrt (ms u)
/-- The normalised token. -/
def nrm (u : Row) : Row := fun j => u j * inv u
/-- The error. -/
def err (fg t u : Row) : Row := fun j => nrm u j * fg j - t j
/-- The mean square error of the token. -/
def mse (fg t u : Row) : EReal := Ideal.div (∑ k, err fg t u k * err fg t u k) c2048

/-- The gradient of half the mean square error, as the kernel forms it. -/
def grad (fg t u : Row) : Row := fun j =>
  inv u * (err fg t u j * (fg j * cPart)
    - nrm u j * Ideal.div (∑ k, err fg t u k * nrm u k * (fg k * cPart)) c2048)

/-- The cotangent of the normalised and scaled token, by the chain rule. -/
def ct (fg t u : Row) : Row := fun j => Ideal.div (cHalf * cOne) c2048 * (cTwo * err fg t u j)
/-- What the mean square's branch of the chain rule sends back to each entry, before the entry. -/
def back (fg t u : Row) : EReal :=
  Ideal.div ((∑ k, u k * (ct fg t u k * fg k)) * (cNegHalf * Ideal.div (inv u) (ms u))) c2048
/-- The gradient by the chain rule. -/
def gradRef (fg t u : Row) : Row := fun j =>
  ct fg t u j * fg j * inv u + (u j * back fg t u + back fg t u * u j)

/-! ### Extended reals -/

theorem mul_coe_coe (z : EReal) (a b : ℝ) : z * (a : EReal) * (b : EReal) = z * ((a * b : ℝ) : EReal) := by
  rw [mul_assoc, ← EReal.coe_mul]

theorem add_self_coe (z : EReal) (a : ℝ) : z * (a : EReal) + z * (a : EReal) = z * ((2 * a : ℝ) : EReal) := by
  have two (w : EReal) : w + w = w * ((2 : ℝ) : EReal) := by
    induction w with
    | bot => simp [EReal.bot_mul_coe_of_pos (by norm_num : (0 : ℝ) < 2)]
    | top => simp [EReal.top_mul_coe_of_pos (by norm_num : (0 : ℝ) < 2)]
    | coe r => rw [← EReal.coe_add, ← EReal.coe_mul]; congr 1; ring
  rw [two, mul_coe_coe, mul_comm a 2]

/-- A finite nonnegative factor passes through a sum. -/
theorem sum_mul_coe {ι : Type*} (s : Finset ι) (f : ι → EReal) {a : ℝ} (ha : 0 ≤ a) :
    (∑ k ∈ s, f k) * (a : EReal) = ∑ k ∈ s, f k * (a : EReal) := by
  classical
  induction s using Finset.induction_on with
  | empty => simp
  | insert k s h ih =>
    rw [Finset.sum_insert h, Finset.sum_insert h, ← ih,
      EReal.right_distrib_of_nonneg_of_ne_top (by exact_mod_cast ha) (EReal.coe_ne_top a)]

theorem div_real (z : EReal) {b : ℝ} (h : b ≠ 0) : Ideal.div z (b : EReal) = z * ((b⁻¹ : ℝ) : EReal) := by
  have hb : (b : EReal) ≠ 0 := by exact_mod_cast h
  rw [Ideal.div, if_neg hb, ← EReal.coe_inv]

theorem sq_nonneg (z : EReal) : 0 ≤ z * z := by
  induction z with
  | bot => simp
  | top => simp
  | coe r => rw [← EReal.coe_mul]; exact_mod_cast mul_self_nonneg r

/-- Where the sum of the squares is finite, so is each entry. -/
theorem real_of_sum (u : Row) (h : ∑ k, u k * u k ≠ ⊤) : ∃ v : Fin 2048 → ℝ, u = fun j => ((v j : ℝ) : EReal) := by
  refine ⟨fun j => (u j).toReal, funext fun j => (EReal.coe_toReal ?_ ?_).symm⟩
  all_goals
    intro hj
    refine h (top_le_iff.mp (le_trans ?_ (Finset.single_le_sum (fun k _ => sq_nonneg (u k)) (Finset.mem_univ j))))
    rw [hj]; simp

theorem ms_cases (u : Row) : (ms u = ⊤) ∨ ∃ (v : Fin 2048 → ℝ) (q : ℝ), (u = fun j => ((v j : ℝ) : EReal)) ∧ 0 < q ∧ ms u = (q : EReal) := by
  by_cases h : ∑ k, u k * u k = ⊤
  · left
    rw [ms, h, c2048_eq, div_real _ (by norm_num), EReal.top_mul_coe_of_pos (by norm_num), cEps_eq]
    simp
  · right
    obtain ⟨v, rfl⟩ := real_of_sum u h
    refine ⟨v, (∑ k, v k * v k) / 2048 + eps, rfl, ?_, ?_⟩
    · have := Finset.sum_nonneg fun (k : Fin 2048) (_ : k ∈ Finset.univ) => mul_self_nonneg (v k)
      have := eps_pos
      positivity
    · rw [ms, c2048_eq, cEps_eq]
      simp only [← EReal.coe_mul]
      rw [coe_sum, div_coe (by norm_num), ← EReal.coe_add]

/-- The two gradients are the same. -/
theorem grad_eq (fg t u : Row) : grad fg t u = gradRef fg t u := by
  funext j
  rcases ms_cases u with h | ⟨v, q, hv, hq, h⟩
  · have hi : inv u = 0 := by rw [inv, h]; rfl
    have hd : Ideal.div (0 : EReal) ⊤ = 0 := by simp [Ideal.div]
    have hb : back fg t u = 0 := by
      rw [back, hi, h, hd, mul_zero, mul_zero, c2048_eq, div_real _ (by norm_num), zero_mul]
    simp only [grad, gradRef, hi, hb, zero_mul, mul_zero, add_zero]
  · obtain ⟨r, hr, hi, hrq⟩ : ∃ r : ℝ, 0 < r ∧ inv u = (r : EReal) ∧ r / q = r ^ 3 := by
      refine ⟨(Real.sqrt q)⁻¹, inv_pos.mpr (Real.sqrt_pos.mpr hq), by rw [inv, h, rsqrt_coe hq], ?_⟩
      have hs : Real.sqrt q ≠ 0 := (Real.sqrt_pos.mpr hq).ne'
      have : q = Real.sqrt q ^ 2 := (Real.sq_sqrt hq.le).symm
      rw [div_eq_iff hq.ne']
      have e : (Real.sqrt q)⁻¹ ^ 3 * Real.sqrt q ^ 2 = (Real.sqrt q)⁻¹ := by field_simp
      rw [← this] at e
      exact e.symm
    have hct (k : Fin 2048) : ct fg t u k * fg k = err fg t u k * fg k * ((1 / 2048 : ℝ) : EReal) := by
      rw [ct, cHalf_eq, cOne_eq, cTwo_eq, c2048_eq, ← EReal.coe_mul, div_coe (by norm_num), ← mul_assoc, ← EReal.coe_mul,
        mul_comm (_ : EReal) (err fg t u k), mul_right_comm]
      congr 2; norm_num
    have hS : ∑ k, err fg t u k * nrm u k * (fg k * cPart)
        = (∑ k, u k * (err fg t u k * fg k)) * ((r * (1 / 2048) : ℝ) : EReal) := by
      rw [sum_mul_coe _ _ (by positivity)]
      refine Finset.sum_congr rfl fun k _ => ?_
      rw [nrm, hi, cPart_eq, EReal.coe_mul]
      ac_rfl
    have hT : ∑ k, u k * (ct fg t u k * fg k) = (∑ k, u k * (err fg t u k * fg k)) * ((1 / 2048 : ℝ) : EReal) := by
      rw [sum_mul_coe _ _ (by positivity)]
      refine Finset.sum_congr rfl fun k _ => ?_
      rw [hct, ← mul_assoc]
    have hb : back fg t u = (∑ k, u k * (err fg t u k * fg k)) * ((-(r ^ 3 / 2 / 2048 / 2048) : ℝ) : EReal) := by
      rw [back, hT, hi, h, div_coe hq.ne', hrq, cNegHalf_eq, ← EReal.coe_mul, mul_coe_coe, c2048_eq, div_real _ (by norm_num),
        mul_coe_coe]
      congr 2; ring
    simp only [grad, gradRef]
    rw [hS, hb, hct, hi, nrm, hi, c2048_eq, div_real _ (by norm_num), mul_coe_coe, mul_coe_coe, cPart_eq]
    generalize (∑ k, u k * (err fg t u k * fg k)) = S
    rw [mul_comm (S * _) (u j), ← mul_assoc (u j) S, add_self_coe, sub_eq_add_neg,
      EReal.left_distrib_of_nonneg_of_ne_top (by exact_mod_cast hr.le) (EReal.coe_ne_top r)]
    congr 1
    · rw [mul_comm (r : EReal), ← mul_assoc, mul_coe_coe]
    · rw [← mul_neg, ← mul_neg, ← EReal.coe_neg]
      have : (r : EReal) * (u j * (r : EReal) * (S * ((-(r * (1 / 2048) * 2048⁻¹) : ℝ) : EReal)))
          = u j * S * (((r : EReal) * (r : EReal)) * ((-(r * (1 / 2048) * 2048⁻¹) : ℝ) : EReal)) := by
        ac_rfl
      rw [this, ← EReal.coe_mul, ← EReal.coe_mul]
      congr 2; ring

/-- The gradient of the final scale, one token's share. -/
theorem dfg_eq (fg t u : Row) (j : Fin 2048) : nrm u j * ct fg t u j = err fg t u j * nrm u j * cPart := by
  rw [ct, cHalf_eq, cOne_eq, cTwo_eq, c2048_eq, ← EReal.coe_mul, div_coe (by norm_num), ← mul_assoc (_ : EReal) _ (err fg t u j), ← EReal.coe_mul,
    cPart_eq, mul_comm (_ : EReal) (err fg t u j), ← mul_assoc, mul_comm (nrm u j)]
  congr 2; norm_num

end Cert.Head

end
-- ==== Proof.HeadBlock.lean ====
/-
  The body of `out_proj_head` on one block of 256 tokens: each value it stores, read at an entry, is the row function of
  `HeadMath` at the entry's token.
-/
module

public import proofs.«01_k».proof.Proof.HeadMath
public import proofs.«01_k».proof.Proof.Gen.Kernel3Ideal.Skeleton
public import Idealize.ShloMosaic.Lib.Pipeline.ValueKit

@[expose] public section

set_option maxRecDepth 16384

noncomputable section

namespace Cert.Head

open Idealize.ShloMosaic hiding ix0 ix1 ix2 ix3 ix4 ix5 eq_ix2
open Cert.Kernel3Ideal Cert.Kernel3Ideal.Gen Idealize.ShloMosaic.TcCoe ValueIdx Cert.Lift
open scoped BigOperators

/-- Row `p` of a matrix. -/
abbrev rowOf {n m : Nat} (v : (⟨2, ![n, m]⟩ : Shape).Idx → EReal) (p : Fin n) : Fin m → EReal := fun k => v (ix2 p k)

variable (a : FVec Ideal S256x2048 .bf16) (w : FVec Ideal S2048x2048 .bf16) (g fg : FVec Ideal S1x2048 .f32) (x tg : FVec Ideal S256x2048 .f32)
  (r : FVec Ideal S256x1 .f32) (n e : FVec Ideal S256x2048 .f32) (A : FVec Ideal S1x2048 .f32) (L : FVec Ideal S1x128 .f32)

/-- The token of row `p` of a block. -/
abbrev tokB (p : Fin 256) : Row := tok (rowOf w) (rowOf g 0) (rowOf a p) (rowOf x p)

theorem pay6 (p : Fin 256) (j : Fin 2048) : k0_pay6 (F := Ideal) a w (ix2 p j) = proj (rowOf w) (rowOf a p) j := by
  pointwise [k0_pay6]
  rfl

theorem pay8 (p : Fin 256) (j : Fin 2048) : k0_pay8 (F := Ideal) a w g x (ix2 p j) = tokB a w g x p j := by
  pointwise [k0_pay8]
  rw [pay6]
  rfl

theorem pay8' : k0_pay8 (F := Ideal) a w g x = fun i => tokB a w g x (fst i) (snd i) :=
  funext fun i => (congrArg (k0_pay8 (F := Ideal) a w g x) (eq_ix2 i)).trans (pay8 a w g x _ _)

theorem pay9 (p : Fin 256) : k0_pay9 (F := Ideal) a w g x (ix2 p 0) = inv (tokB a w g x p) := by
  pointwise [k0_pay9]
  rw [pay8']
  rfl

theorem pay9' : k0_pay9 (F := Ideal) a w g x = fun i => inv (tokB a w g x (fst i)) :=
  funext fun i => (congrArg (k0_pay9 (F := Ideal) a w g x) ((eq_ix2 i).trans (congrArg (ix2 (fst i)) (Subsingleton.elim (α := Fin 1) (snd i) 0)))).trans (pay9 a w g x _)

theorem pay10 (p : Fin 256) (j : Fin 2048) : k0_pay10 (F := Ideal) a w g x (ix2 p j) = nrm (tokB a w g x p) j := by
  pointwise [k0_pay10]
  rw [pay8', pay9']
  rfl

theorem pay10' : k0_pay10 (F := Ideal) a w g x = fun i => nrm (tokB a w g x (fst i)) (snd i) :=
  funext fun i => (congrArg (k0_pay10 (F := Ideal) a w g x) (eq_ix2 i)).trans (pay10 a w g x _ _)

theorem pay11 (p : Fin 256) (j : Fin 2048) :
    k0_pay11 (F := Ideal) a w g fg x tg (ix2 p j) = err (rowOf fg 0) (rowOf tg p) (tokB a w g x p) j := by
  pointwise [k0_pay11, k0_pay7]
  rw [pay10']
  rfl

theorem pay11' : k0_pay11 (F := Ideal) a w g fg x tg = fun i => err (rowOf fg 0) (rowOf tg (fst i)) (tokB a w g x (fst i)) (snd i) :=
  funext fun i => (congrArg (k0_pay11 (F := Ideal) a w g fg x tg) (eq_ix2 i)).trans (pay11 a w g fg x tg _ _)

theorem pay13 (p : Fin 256) : k0_pay13 (F := Ideal) a w g fg x tg (ix2 p 0) = mse (rowOf fg 0) (rowOf tg p) (tokB a w g x p) := by
  pointwise [k0_pay13]
  rw [pay11']
  rfl

theorem pay13' : k0_pay13 (F := Ideal) a w g fg x tg = fun i => mse (rowOf fg 0) (rowOf tg (fst i)) (tokB a w g x (fst i)) :=
  funext fun i => (congrArg (k0_pay13 (F := Ideal) a w g fg x tg) ((eq_ix2 i).trans (congrArg (ix2 (fst i)) (Subsingleton.elim (α := Fin 1) (snd i) 0)))).trans (pay13 a w g fg x tg _)

/-- The loss so far and this block's. -/
theorem pay14 (q : Fin 128) : k0_pay14 (F := Ideal) (k0_pay12 (F := Ideal) L) (k0_pay13 (F := Ideal) a w g fg x tg) (ix2 0 q)
    = L (ix2 0 q) + cHalf * ∑ p, mse (rowOf fg 0) (rowOf tg p) (tokB a w g x p) := by
  pointwise [k0_pay14, k0_pay12]
  rw [pay13']
  rfl

/-- The gradient of the final scale so far and this block's. -/
theorem pay16 (j : Fin 2048) :
    k0_pay16 (F := Ideal) (k0_pay10 (F := Ideal) a w g x) (k0_pay11 (F := Ideal) a w g fg x tg) A (ix2 0 j)
    = A (ix2 0 j) + (∑ p, err (rowOf fg 0) (rowOf tg p) (tokB a w g x p) j * nrm (tokB a w g x p) j) * cPart := by
  pointwise [k0_pay16, k0_pay15]
  rw [pay10', pay11']
  rfl

/-- The gradient of the token. -/
abbrev dx2 : FVec Ideal S256x2048 .f32 :=
  k0_pay17 (F := Ideal) (k0_pay7 (F := Ideal) fg) (k0_pay9 (F := Ideal) a w g x) (k0_pay10 (F := Ideal) a w g x) (k0_pay11 (F := Ideal) a w g fg x tg)

theorem pay17 (p : Fin 256) (j : Fin 2048) : dx2 a w g fg x tg (ix2 p j) = grad (rowOf fg 0) (rowOf tg p) (tokB a w g x p) j := by
  unfold dx2
  pointwise [k0_pay17, k0_pay15, k0_pay7]
  rw [pay9', pay10', pay11']
  rfl

theorem pay17' : dx2 a w g fg x tg = fun i => grad (rowOf fg 0) (rowOf tg (fst i)) (tokB a w g x (fst i)) (snd i) :=
  funext fun i => (congrArg (dx2 a w g fg x tg) (eq_ix2 i)).trans (pay17 a w g fg x tg _ _)

theorem pay1 (p : Fin 256) (j : Fin 2048) : k0_pay1 (F := Ideal) g (dx2 a w g fg x tg) (ix2 p j)
    = grad (rowOf fg 0) (rowOf tg p) (tokB a w g x p) j * g (ix2 0 j) := by
  pointwise [k0_pay1]
  rw [pay17']
  rfl

theorem pay2 (p : Fin 256) (j : Fin 2048) : k0_pay2 (F := Ideal) g (dx2 a w g fg x tg) w (ix2 p j)
    = ∑ k, grad (rowOf fg 0) (rowOf tg p) (tokB a w g x p) k * g (ix2 0 k) * w (ix2 j k) := by
  pointwise [k0_pay2, k0_pay1]
  rw [pay17']
  rfl

theorem pay18 (j : Fin 2048) :
    k0_pay18 (F := Ideal) (k0_pay6 (F := Ideal) a w) (k0_pay7 (F := Ideal) fg) (k0_pay9 (F := Ideal) a w g x) (k0_pay10 (F := Ideal) a w g x) (k0_pay11 (F := Ideal) a w g fg x tg) A (ix2 0 j)
    = A (ix2 0 j) + ∑ p, grad (rowOf fg 0) (rowOf tg p) (tokB a w g x p) j * proj (rowOf w) (rowOf a p) j := by
  pointwise [k0_pay18]
  refine congrArg (A (ix2 0 j) + ·) (Finset.sum_congr rfl fun p _ => ?_)
  exact congrArg₂ (· * ·) (pay17 a w g fg x tg p j) (pay6 a w p j)

end Cert.Head

end
-- ==== Proof.HeadKernel.lean ====
/-
  The arrays `out_proj_head` leaves: the rows of a point are the row functions at its tokens, and the four accumulated
  arrays are the sums over all tokens.
-/
module

public import proofs.«01_k».proof.Proof.HeadBlock
public import proofs.«01_k».proof.Proof.Gen.Kernel3Ideal.Value
public import Idealize.ShloMosaic.Lib.Pipeline.ValueKit

@[expose] public section

set_option maxRecDepth 16384

noncomputable section

namespace Cert.Head

open Idealize.ShloMosaic hiding ix0 ix1 ix2 ix3 ix4 ix5 eq_ix2
open Cert.Kernel3Ideal Cert.Kernel3Ideal.Gen Idealize.ShloMosaic.TcCoe ValueIdx Cert.Lift
open Idealize.ShloMosaic.Pipeline (Dat)
open scoped BigOperators

/-- The windows' block indices. -/
theorem idx : ∀ t : Fin cfg0.N, win0_0.index t = ![t.val, 0] ∧ win0_1.index t = ![0, 0] ∧ win0_2.index t = ![t.val, 0]
    ∧ win0_3.index t = ![t.val, 0] ∧ win0_4.index t = ![0, 2] ∧ win0_5.index t = ![0, 0] ∧ win0_6.index t = ![t.val, 0]
    ∧ win0_7.index t = ![t.val, 0] ∧ win0_8.index t = ![t.val, 0] ∧ t.val < 8 :=
  (by decide +kernel : ∀ t : Fin grid0.N, _)

/-- Token `p` of point `t`. -/
def tokenAt (t : Fin cfg0.N) (p : Fin 256) : Fin 2048 := ⟨t.val * 256 + p.val, by have := (idx t).2.2.2.2.2.2.2.2.2; omega⟩

variable (m : (ℓ : Loc nD τ sig) → Buf (Elt Ideal) ℓ) (c : Dev nD)

/-- The mixed activations. -/
def argA : FVec Ideal S2048x2048 .bf16 := m ((c : Thread nD τ).loc main_arg0)
/-- The output projection's weights. -/
def argW : FVec Ideal S2048x2048 .f32 := m ((c : Thread nD τ).loc main_arg1)
/-- The tokens. -/
def argX : FVec Ideal S2048x2048 .f32 := m ((c : Thread nD τ).loc main_arg2)
/-- The targets. -/
def argT : FVec Ideal S2048x2048 .f32 := m ((c : Thread nD τ).loc main_arg3)
/-- The modulation. -/
def argM : FVec Ideal S1x6144 .f32 := m ((c : Thread nD τ).loc main_arg4)
/-- The final scale. -/
def argF : FVec Ideal S2048 .f32 := m ((c : Thread nD τ).loc main_arg5)

/-- The gate: the last third of the modulation. -/
def gate : Row := fun j => argM m c (ix2 (0 : Fin 1) (⟨4096 + j.val, by omega⟩ : Fin 6144))
/-- The final scale as a row. -/
def fin : Row := fun j => argF m c (ix1 j)
/-- The residual stream of token `i`. -/
def token (i : Fin 2048) : Row := tok (rowOf (argW m c)) (gate m c) (rowOf (argA m c) i) (rowOf (argX m c) i)
/-- The gradient of token `i`. -/
def dtoken (i : Fin 2048) : Row := grad (fin m c) (rowOf (argT m c) i) (token m c i)
/-- The projected row of token `i`. -/
def out (i : Fin 2048) : Row := proj (rowOf (argW m c)) (rowOf (argA m c) i)

theorem blk0 (t : Fin cfg0.N) (p : Fin 256) : rowOf (iblk m c 0 t) p = rowOf (argA m c) (tokenAt t p) := by
  funext k
  show V m c main_arg0 _ = _
  rw [V_main_arg0]
  unfold argA tokenAt
  blk_ext [idx t]

theorem blk1 (t : Fin cfg0.N) : rowOf (iblk m c 1 t) = rowOf (argW m c) := by
  have e : V m c main_v0 = argW m c := by
    show StableHlo.after hostOps0 _ (Proc.devRef .tc main_v0) = _
    after_results
    rfl
  funext p k
  show V m c main_v0 _ = _
  rw [e]
  blk_ext [idx t]

theorem blk2 (t : Fin cfg0.N) (p : Fin 256) : rowOf (iblk m c 2 t) p = rowOf (argX m c) (tokenAt t p) := by
  funext k
  show V m c main_arg2 _ = _
  rw [V_main_arg2]
  unfold argX tokenAt
  blk_ext [idx t]

theorem blk3 (t : Fin cfg0.N) (p : Fin 256) : rowOf (iblk m c 3 t) p = rowOf (argT m c) (tokenAt t p) := by
  funext k
  show V m c main_arg3 _ = _
  rw [V_main_arg3]
  unfold argT tokenAt
  blk_ext [idx t]

theorem blk4 (t : Fin cfg0.N) : rowOf (iblk m c 4 t) 0 = gate m c := by
  funext k
  show V m c main_arg4 _ = _
  rw [V_main_arg4]
  unfold gate argM
  blk_ext [idx t]

theorem blk5 (t : Fin cfg0.N) : rowOf (iblk m c 5 t) 0 = fin m c := by
  have e : V m c main_v1 = shapeCast _ (argF m c) shapeCasts_S2048_S1x2048 := by
    show StableHlo.after hostOps0 _ (Proc.devRef .tc main_v1) = _
    after_results
    rfl
  funext k
  show V m c main_v1 _ = _
  rw [e]
  refine (castRow_apply _ _ _).trans ?_
  refine congrArg (fun q : Fin 2048 => argF m c (ix1 q)) (Fin.ext ?_)
  show (((win0_5.blk t).view.emb (ix2 (0 : Fin 1) k)) 1).val = k.val
  blk_simp [idx t]
  rfl

theorem tokB_eq (t : Fin cfg0.N) (p : Fin 256) :
    tokB (iblk m c 0 t) (iblk m c 1 t) (iblk m c 4 t) (iblk m c 2 t) p = token m c (tokenAt t p) := by
  unfold tokB token
  rw [blk0, blk1, blk4, blk2]

theorem grad_blk (t : Fin cfg0.N) (p : Fin 256) : grad (rowOf (iblk m c 5 t) 0) (rowOf (iblk m c 3 t) p)
    (tokB (iblk m c 0 t) (iblk m c 1 t) (iblk m c 4 t) (iblk m c 2 t) p) = dtoken m c (tokenAt t p) := by
  rw [tokB_eq, blk5, blk3]; rfl

/-- A one-row index is in row 0. -/
theorem row0 {n : Nat} (j : (⟨2, ![1, n]⟩ : Shape).Idx) : j = ix2 0 (snd j) :=
  (eq_ix2 j).trans (congrArg (fun a => ix2 a (snd j)) (Subsingleton.elim (α := Fin 1) _ _))

/-- The points' tokens are all tokens. -/
theorem sum_points (f : Fin 2048 → EReal) : ∑ t : Fin cfg0.N, ∑ p : Fin 256, f (tokenAt t p) = ∑ i, f i := by
  rw [sum_blocks 8 256 2048 rfl f]
  refine Finset.sum_congr rfl fun t _ => Finset.sum_congr rfl fun p _ => congrArg f (Fin.ext ?_)
  show t.val * 256 + p.val = 256 * t.val + p.val
  omega

/-! ### The rows -/

theorem out6 (t : Fin cfg0.N) (y : S256x2048.Idx) : (outsAt0 m c t.val t.isLt).1 y = dtoken m c (tokenAt t (fst y)) (snd y) := by
  have e : dx2 (iblk m c 0 t) (iblk m c 1 t) (iblk m c 4 t) (iblk m c 5 t) (iblk m c 2 t) (iblk m c 3 t) y = dtoken m c (tokenAt t (fst y)) (snd y) := by
    exact (congrArg _ (eq_ix2 y)).trans ((pay17 _ _ _ _ _ _ _ _).trans (congrFun (grad_blk m c t (fst y)) (snd y)))
  by_cases h0 : t.val % 8 = 0
  · rw [outsAt0_A m c t h0]
    frame_out
    exact e
  · rw [outsAt0_B m c t h0]
    frame_out
    exact e

theorem out7 (t : Fin cfg0.N) (y : S256x2048.Idx) :
    (outsAt0 m c t.val t.isLt).2.1 y = dtoken m c (tokenAt t (fst y)) (snd y) * gate m c (snd y) := by
  have e : k0_pay1 (F := Ideal) (iblk m c 4 t) (dx2 (iblk m c 0 t) (iblk m c 1 t) (iblk m c 4 t) (iblk m c 5 t) (iblk m c 2 t) (iblk m c 3 t)) y
      = dtoken m c (tokenAt t (fst y)) (snd y) * gate m c (snd y) := by
    refine (congrArg _ (eq_ix2 y)).trans ((pay1 _ _ _ _ _ _ _ _).trans ?_)
    exact congrArg₂ (· * ·) (congrFun (grad_blk m c t (fst y)) (snd y)) (congrFun (blk4 m c t) (snd y))
  by_cases h0 : t.val % 8 = 0
  · rw [outsAt0_A m c t h0]
    frame_out
    exact e
  · rw [outsAt0_B m c t h0]
    frame_out
    exact e

theorem out8 (t : Fin cfg0.N) (y : S256x2048.Idx) :
    (outsAt0 m c t.val t.isLt).2.2.1 y = ∑ k, dtoken m c (tokenAt t (fst y)) k * gate m c k * argW m c (ix2 (snd y) k) := by
  have e : k0_pay2 (F := Ideal) (iblk m c 4 t) (dx2 (iblk m c 0 t) (iblk m c 1 t) (iblk m c 4 t) (iblk m c 5 t) (iblk m c 2 t) (iblk m c 3 t)) (iblk m c 1 t) y
      = ∑ k, dtoken m c (tokenAt t (fst y)) k * gate m c k * argW m c (ix2 (snd y) k) := by
    refine (congrArg _ (eq_ix2 y)).trans ((pay2 _ _ _ _ _ _ _ _).trans (Finset.sum_congr rfl fun k _ => ?_))
    exact congrArg₂ (· * ·) (congrArg₂ (· * ·) (congrFun (grad_blk m c t (fst y)) k) (congrFun (blk4 m c t) k))
      (congrFun (congrFun (blk1 m c t) (snd y)) k)
  by_cases h0 : t.val % 8 = 0
  · rw [outsAt0_A m c t h0]
    frame_out
    exact e
  · rw [outsAt0_B m c t h0]
    frame_out
    exact e

theorem final6 : (dats m 0 c).arrAt 6 cfg0.N = fun j : S2048x2048.Idx => dtoken m c (fst j) (snd j) := by
  refine (dats m 0 c).arrAt_eq_of_covers 6 _ (by decide +kernel) fun t _ y => ?_
  blk_simp
  rw [after0_6, out6]
  refine congrArg₂ (dtoken m c) (Fin.ext ?_) (Fin.ext ?_)
  · show t.val * 256 + (fst y).val = (((win0_6.blk t).view.emb y) 0).val
    blk_simp [idx t]
  · show (snd y).val = (((win0_6.blk t).view.emb y) 1).val
    blk_simp [idx t]

theorem final7 : (dats m 0 c).arrAt 7 cfg0.N = fun j : S2048x2048.Idx => dtoken m c (fst j) (snd j) * gate m c (snd j) := by
  refine (dats m 0 c).arrAt_eq_of_covers 7 _ (by decide +kernel) fun t _ y => ?_
  blk_simp
  rw [after0_7, out7]
  refine congrArg₂ (fun i j => dtoken m c i j * gate m c j) (Fin.ext ?_) (Fin.ext ?_)
  · show t.val * 256 + (fst y).val = (((win0_7.blk t).view.emb y) 0).val
    blk_simp [idx t]
  · show (snd y).val = (((win0_7.blk t).view.emb y) 1).val
    blk_simp [idx t]

theorem final8 : (dats m 0 c).arrAt 8 cfg0.N = fun j : S2048x2048.Idx => ∑ k, dtoken m c (fst j) k * gate m c k * argW m c (ix2 (snd j) k) := by
  refine (dats m 0 c).arrAt_eq_of_covers 8 _ (by decide +kernel) fun t _ y => ?_
  blk_simp
  rw [after0_8, out8]
  refine congrArg₂ (fun i j => ∑ k, dtoken m c i k * gate m c k * argW m c (ix2 j k)) (Fin.ext ?_) (Fin.ext ?_)
  · show t.val * 256 + (fst y).val = (((win0_8.blk t).view.emb y) 0).val
    blk_simp [idx t]
  · show (snd y).val = (((win0_8.blk t).view.emb y) 1).val
    blk_simp [idx t]

/-! ### The sums over the tokens -/

/-- The mean square error of token `i`. -/
def loss (i : Fin 2048) : EReal := mse (fin m c) (rowOf (argT m c) i) (token m c i)
/-- Token `i`'s share of the gradient of the final scale, before the 2048th part. -/
def share (i : Fin 2048) (j : Fin 2048) : EReal := err (fin m c) (rowOf (argT m c) i) (token m c i) j * nrm (token m c i) j

theorem step9 (t : Fin cfg0.N) (L : FVec Ideal S1x128 .f32) (j : S1x128.Idx) :
    k0_pay14 (F := Ideal) (k0_pay12 (F := Ideal) L) (k0_pay13 (F := Ideal) (iblk m c 0 t) (iblk m c 1 t) (iblk m c 4 t) (iblk m c 5 t) (iblk m c 2 t) (iblk m c 3 t)) j
      = L j + cHalf * ∑ p, loss m c (tokenAt t p) := by
  rw [row0 j]
  refine (pay14 _ _ _ _ _ _ _ _).trans (congrArg (L (ix2 0 (snd j)) + cHalf * ·) (Finset.sum_congr rfl fun p _ => ?_))
  rw [tokB_eq, blk5, blk3]; rfl

theorem step10 (t : Fin cfg0.N) (A : FVec Ideal S1x2048 .f32) (j : S1x2048.Idx) :
    k0_pay16 (F := Ideal) (k0_pay10 (F := Ideal) (iblk m c 0 t) (iblk m c 1 t) (iblk m c 4 t) (iblk m c 2 t)) (k0_pay11 (F := Ideal) (iblk m c 0 t) (iblk m c 1 t) (iblk m c 4 t) (iblk m c 5 t) (iblk m c 2 t) (iblk m c 3 t)) A j
      = A j + (∑ p, share m c (tokenAt t p) (snd j)) * cPart := by
  rw [row0 j]
  refine (pay16 _ _ _ _ _ _ _ _).trans (congrArg (A (ix2 0 (snd j)) + · * cPart) (Finset.sum_congr rfl fun p _ => ?_))
  rw [tokB_eq, blk5, blk3]; rfl

theorem step11 (t : Fin cfg0.N) (A : FVec Ideal S1x2048 .f32) (j : S1x2048.Idx) :
    k0_pay18 (F := Ideal) (k0_pay6 (F := Ideal) (iblk m c 0 t) (iblk m c 1 t)) (k0_pay7 (F := Ideal) (iblk m c 5 t)) (k0_pay9 (F := Ideal) (iblk m c 0 t) (iblk m c 1 t) (iblk m c 4 t) (iblk m c 2 t))
      (k0_pay10 (F := Ideal) (iblk m c 0 t) (iblk m c 1 t) (iblk m c 4 t) (iblk m c 2 t)) (k0_pay11 (F := Ideal) (iblk m c 0 t) (iblk m c 1 t) (iblk m c 4 t) (iblk m c 5 t) (iblk m c 2 t) (iblk m c 3 t)) A j
      = A j + ∑ p, dtoken m c (tokenAt t p) (snd j) * out m c (tokenAt t p) (snd j) := by
  rw [row0 j]
  refine (pay18 _ _ _ _ _ _ _ _).trans (congrArg (A (ix2 0 (snd j)) + ·) (Finset.sum_congr rfl fun p _ => ?_))
  rw [tokB_eq, blk5, blk3, blk1, blk0]; rfl

theorem final9 : (dats m 0 c).arrAt 9 cfg0.N = fun _ : S1x128.Idx => cHalf * ∑ i, loss m c i := by
  have zero (j : S1x128.Idx) : k0_pay3 (F := Ideal) j = 0 := by pointwise [k0_pay3]
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => (0 : EReal))
    (fun t j => cHalf * ∑ p, loss m c (tokenAt t p))
    (fun t h j => by
      rw [outsAt0_A m c t h]; frame_out; rw [step9, zero])
    (fun t h j => by rw [outsAt0_B m c t h]; frame_out; rw [step9]) (le_of_eq N_0) t0_7 rfl j, zero_add]
  show (∑ t : Fin cfg0.N, cHalf * ∑ p, loss m c (tokenAt t p)) = cHalf * ∑ i, loss m c i
  rw [← sum_points, cHalf_eq, mul_comm, sum_mul_coe _ _ (by norm_num)]
  exact Finset.sum_congr rfl fun t _ => mul_comm _ _

theorem final10 : (dats m 0 c).arrAt 10 cfg0.N = fun j : S1x2048.Idx => (∑ i, share m c i (snd j)) * cPart := by
  have zero (j : S1x2048.Idx) : k0_pay4 (F := Ideal) j = 0 := by pointwise [k0_pay4]
  refine (dats m 0 c).arrAt_eq_of_after_last 10 t0_7 (by decide +kernel) _ fun j => ?_
  blk_simp
  rw [after0_10, Pipeline.eq_sum_fin_of_reset_step_apply_last (fun n h => (outsAt0 m c n h).2.2.2.2.1) 8 (fun _ => (0 : EReal))
    (fun t j => (∑ p, share m c (tokenAt t p) (snd j)) * cPart)
    (fun t h j => by
      rw [outsAt0_A m c t h]; frame_out; rw [step10, zero])
    (fun t h j => by rw [outsAt0_B m c t h]; frame_out; rw [step10]) (le_of_eq N_0) t0_7 rfl j, zero_add]
  show (∑ t : Fin cfg0.N, (∑ p, share m c (tokenAt t p) (snd j)) * cPart) = (∑ i, share m c i (snd j)) * cPart
  rw [← sum_points (fun i => share m c i (snd j)), cPart_eq, sum_mul_coe _ _ (by norm_num)]

theorem final11 : (dats m 0 c).arrAt 11 cfg0.N = fun j : S1x2048.Idx => ∑ i, dtoken m c i (snd j) * out m c i (snd j) := by
  have zero (j : S1x2048.Idx) : k0_pay5 (F := Ideal) j = 0 := by pointwise [k0_pay5]
  refine (dats m 0 c).arrAt_eq_of_after_last 11 t0_7 (by decide +kernel) _ fun j => ?_
  blk_simp
  rw [after0_11, Pipeline.eq_sum_fin_of_reset_step_apply_last (fun n h => (outsAt0 m c n h).2.2.2.2.2) 8 (fun _ => (0 : EReal))
    (fun t j => ∑ p, dtoken m c (tokenAt t p) (snd j) * out m c (tokenAt t p) (snd j))
    (fun t h j => by
      rw [outsAt0_A m c t h]; frame_out; rw [step11, zero])
    (fun t h j => by rw [outsAt0_B m c t h]; frame_out; rw [step11]) (le_of_eq N_0) t0_7 rfl j, zero_add]
  exact sum_points (fun i => dtoken m c i (snd j) * out m c i (snd j))

end Cert.Head

end
-- ==== Proof.HeadRef.lean ====
/-
  The reference of `out_proj_head`: each stage of the two vjps, read at an entry, is the row function of `HeadMath` at
  the entry's token.
-/
module

public import proofs.«01_k».proof.Proof.HeadMath
public import proofs.«01_k».proof.Proof.Gen.Reference3Ideal.Read
public import Idealize.ShloMosaic.Lib.Pipeline.ValueKit

@[expose] public section

set_option maxRecDepth 16384

noncomputable section

namespace Cert.Head.Ref

open Idealize.ShloMosaic hiding ix0 ix1 ix2 ix3 ix4 ix5 eq_ix2
open Cert.Reference3Ideal Cert.Reference3Ideal.Read ValueIdx Cert.Lift
open scoped BigOperators

variable (a : FVec Ideal S2048x2048 .bf16) (w x t : FVec Ideal S2048x2048 .f32) (md : FVec Ideal S1x6144 .f32) (f : FVec Ideal S2048 .f32)

/-- Row `p` of a matrix. -/
abbrev rw' {n m : Nat} (v : (⟨2, ![n, m]⟩ : Shape).Idx → EReal) (p : Fin n) : Fin m → EReal := fun k => v (ix2 p k)
/-- The gate. -/
def gt : Row := fun j => md (ix2 (0 : Fin 1) (⟨4096 + j.val, by omega⟩ : Fin 6144))
/-- The final scale as a row. -/
def fr : Row := fun j => f (ix1 j)
/-- The residual stream of token `i`. -/
def tk (i : Fin 2048) : Row := tok (rw' w) (gt md) (rw' a i) (rw' x i)

theorem zero_add' {z : EReal} : (FloatOps.ofBits .f32 0x00000000#32 : Ideal .f32) + z = z := by
  rw [lit_zero, EReal.coe_zero, zero_add]

theorem v4 (i j : Fin 2048) : val_main_v4 (F := Ideal) a w (ix2 i j) = proj (rw' w) (rw' a i) j := by
  refine (val_main_v4_apply a w (ix2 i j)).trans (Finset.sum_congr rfl fun k _ => ?_)
  rw [val_main_v3_apply]
  exact congrArg₂ (· * ·) (congrArg a (eq_ix2 _)) (congrArg w (eq_ix2 _))

theorem v2 (i j : Fin 2048) : val_main_v2 (F := Ideal) md (idx_main_v5 (ix2 i j)) = gt md j := by
  rw [val_main_v2_apply]
  refine congrArg md ?_
  blk_ext

theorem v7 (i j : Fin 2048) : val_main_v7 (F := Ideal) a w x md (ix2 i j) = tk a w x md i j := by
  rw [val_main_v7_apply, val_main_v6_apply, val_main_v5_apply, v2, v4]
  rfl

theorem v14 (i : Fin 2048) : val_main_v14 (F := Ideal) a w x md (ix2 i 0) = ms (tk a w x md i) := by
  rw [val_main_v14_apply, val_main_v12_apply, val_main_v10_apply, val_main_v9_apply, val_main_cst_apply, zero_add',
    val_main_v11_apply, val_main_v13_apply]
  refine congrArg (fun s => Ideal.div s c2048 + cEps) (Finset.sum_congr rfl fun k _ => ?_)
  rw [val_main_v8_apply, show idx_main_v9 (idx_main_v10 (ix2 i 0)) k = ix2 i k from eq_ix2 _, v7]
  rfl

theorem v15 (i : Fin 2048) : val_main_v15 (F := Ideal) a w x md (ix2 i 0) = inv (tk a w x md i) := by
  rw [val_main_v15_apply, v14]
  rfl

theorem v18 (i : Fin 2048) : val_main_v18 (F := Ideal) a w x md (ix2 i 0) = cNegHalf * Ideal.div (inv (tk a w x md i)) (ms (tk a w x md i)) := by
  rw [val_main_v18_apply, val_main_v17_apply, val_main_v16_apply, v14, v15]
  rfl

theorem v20 (i j : Fin 2048) : val_main_v20 (F := Ideal) a w x md (ix2 i j) = nrm (tk a w x md i) j := by
  rw [val_main_v20_apply, val_main_v19_apply, v7, show idx_main_v19 (ix2 i j) = ix2 i 0 from eq_ix2 _, v15]
  rfl

theorem v22 (i j : Fin 2048) : val_main_v22 (F := Ideal) f (ix2 i j) = fr f j := by
  rw [val_main_v22_apply, val_main_v21_apply]
  exact congrArg f (ValueIdx.eq_ix1 _)

theorem v42 (i j : Fin 2048) : val_main_v42 (F := Ideal) f (ix2 i j) = fr f j := by
  rw [val_main_v42_apply, val_main_v21_apply]
  exact congrArg f (ValueIdx.eq_ix1 _)

theorem v24 (i j : Fin 2048) : val_main_v24 (F := Ideal) a w x t md f (ix2 i j) = err (fr f) (rw' t i) (tk a w x md i) j := by
  rw [val_main_v24_apply, val_main_v23_apply, v20, v22]
  rfl

theorem v30 (i : Fin 2048) : val_main_v30 (F := Ideal) a w x t md f (ix1 i) = mse (fr f) (rw' t i) (tk a w x md i) := by
  rw [val_main_v30_apply, val_main_v28_apply, val_main_cst_4_apply, zero_add', val_main_v29_apply]
  refine congrArg (fun s => Ideal.div s c2048) (Finset.sum_congr rfl fun k _ => ?_)
  rw [val_main_v25_apply, show idx_main_v28 (ix1 i) k = ix2 i k from eq_ix2 _, v24]
  rfl

theorem v32 (q) : val_main_v32 (F := Ideal) a w x t md f q = cHalf * ∑ i, mse (fr f) (rw' t i) (tk a w x md i) := by
  rw [val_main_v32_apply, val_main_v31_apply, val_main_cst_6_apply, zero_add', val_main_cst_7_apply]
  refine congrArg (fun s => cHalf * s) ((sum_idx1 (fun j => val_main_v30 (F := Ideal) a w x t md f j)).trans (Finset.sum_congr rfl fun k _ => ?_))
  exact v30 a w x t md f k

theorem v38 (i j : Fin 2048) : val_main_v38 (F := Ideal) a w x t md f (ix2 i j) = ct (fr f) (rw' t i) (tk a w x md i) j := by
  rw [val_main_v38_apply, val_main_v37_apply, val_main_v36_apply, val_main_v35_apply, val_main_v34_apply, val_main_v27_apply, v24,
    val_main_v26_apply, val_main_v33_apply]
  rfl

theorem v43 (i j : Fin 2048) : val_main_v43 (F := Ideal) a w x t md f (ix2 i j) = ct (fr f) (rw' t i) (tk a w x md i) j * fr f j := by
  rw [val_main_v43_apply, v38, v42]
  rfl

theorem v53 (i : Fin 2048) : val_main_v53 (F := Ideal) a w x t md f (ix1 i) = back (fr f) (rw' t i) (tk a w x md i) := by
  rw [val_main_v53_apply, val_main_cst_15_apply, zero_add', Fin.sum_univ_one, show idx_main_v53 (ix1 i) 0 = ix2 i 0 from eq_ix2 _,
    val_main_v52_apply, val_main_v51_apply, val_main_v50_apply, v18, val_main_v47_apply, val_main_v46_apply, val_main_cst_13_apply, zero_add']
  refine congrArg (fun s => Ideal.div (s * (cNegHalf * Ideal.div (inv (tk a w x md i)) (ms (tk a w x md i)))) c2048) (Finset.sum_congr rfl fun k _ => ?_)
  rw [val_main_v45_apply, show idx_main_v46 (idx_main_v47 (ix2 i 0)) k = ix2 i k from (eq_ix2 _).trans (congrArg (fun q => ix2 q k) (Fin.ext (by simp))), v7, v43]
  rfl

/-- The gradient of the tokens. -/
theorem v58 (i j : Fin 2048) : val_main_v58 (F := Ideal) a w x t md f (ix2 i j) = grad (fr f) (rw' t i) (tk a w x md i) j := by
  rw [val_main_v58_apply, val_main_v56_apply, val_main_v57_apply, val_main_v55_apply, val_main_v54_apply, v7, val_main_v49_apply, v43,
    val_main_v48_apply, show idx_main_v48 (ix2 i j) = ix2 i 0 from eq_ix2 _, v15, show idx_main_v54 (ix2 i j) = ix1 i from ValueIdx.eq_ix1 _, v53, grad_eq]
  exact add_assoc _ _ _

/-- The cotangent of the projection. -/
theorem v60 (i j : Fin 2048) : val_main_v60 (F := Ideal) a w x t md f (ix2 i j) = grad (fr f) (rw' t i) (tk a w x md i) j * gt md j := by
  rw [val_main_v60_apply, val_main_v59_apply, v58, show idx_main_v59 (ix2 i j) = idx_main_v5 (ix2 i j) from rfl, v2]
  exact mul_comm _ _

theorem v65 (i j : Fin 2048) : val_main_v65 (F := Ideal) a w x t md f (ix2 i j) = grad (fr f) (rw' t i) (tk a w x md i) j * gt md j := by
  rw [val_main_v65_apply, v60]
  rfl

theorem v64 (i j : Fin 2048) : val_main_v64 (F := Ideal) a w x t md f (ix2 i j)
    = ∑ k, grad (fr f) (rw' t i) (tk a w x md i) k * gt md k * w (ix2 j k) := by
  rw [val_main_v64_apply]
  refine Finset.sum_congr rfl fun k _ => ?_
  rw [show lidx_main_v64 (ix2 i j) k = ix2 i k from eq_ix2 _, show ridx_main_v64 (ix2 i j) k = ix2 j k from eq_ix2 _, v60]

theorem v66 (q) : val_main_v66 (F := Ideal) a w x t md f q = cHalf * ∑ i, mse (fr f) (rw' t i) (tk a w x md i) := by
  rw [val_main_v66_apply, v32]

/-- The gradient of the final scale. -/
theorem v67 (j : Fin 2048) : val_main_v67 (F := Ideal) a w x t md f (ix2 0 j)
    = (∑ i, err (fr f) (rw' t i) (tk a w x md i) j * nrm (tk a w x md i) j) * cPart := by
  rw [val_main_v67_apply, val_main_v44_apply, val_main_cst_12_apply, zero_add', Fin.sum_univ_one, val_main_v41_apply, val_main_v40_apply,
    val_main_cst_11_apply, zero_add', cPart_eq, sum_mul_coe _ _ (by norm_num), ← cPart_eq]
  refine Finset.sum_congr rfl fun k _ => ?_
  rw [val_main_v39_apply, show idx_main_v40 (idx_main_v41 (idx_main_v44 (idx_main_v67 (ix2 0 j)) 0)) k = ix2 k j from
    (eq_ix2 _).trans (congrArg (fun q => ix2 k q) (Fin.ext (by simp))), v20, v38]
  exact dfg_eq _ _ _ _

/-- The gradient of the gate. -/
theorem v63 (j : Fin 2048) : val_main_v63 (F := Ideal) a w x t md f (ix2 0 j)
    = ∑ i, grad (fr f) (rw' t i) (tk a w x md i) j * proj (rw' w) (rw' a i) j := by
  rw [val_main_v63_apply, val_main_v62_apply, val_main_cst_16_apply, zero_add']
  refine Finset.sum_congr rfl fun k _ => ?_
  rw [val_main_v61_apply, show idx_main_v62 (idx_main_v63 (ix2 0 j)) k = ix2 k j from
    (eq_ix2 _).trans (congrArg (fun q => ix2 k q) (Fin.ext (by simp))), v58, v4]
  rfl

end Cert.Head.Ref

end
-- ==== Proof.HeadClaim.lean ====
/-
  `out_proj_head`: the six results are the reference's, at any inputs.
-/
module

public import proofs.«01_k».proof.Defs
public import proofs.«01_k».proof.Proof.HeadKernel
public import proofs.«01_k».proof.Proof.HeadRef
public import proofs.«01_k».proof.Proof.Gen.Reference3Ideal.Run
public import Idealize.ShloMosaic.Lib.Quiescent

@[expose] public section

set_option maxRecDepth 16384

noncomputable section

namespace Cert.Head

open Idealize.ShloMosaic hiding ix0 ix1 ix2 ix3 ix4 ix5 eq_ix1 eq_ix2
open Cert.Kernel3Ideal Idealize.ShloMosaic.TcCoe ValueIdx Idealize.SL.Sem Cert.Lift Cert.Reference3Ideal.Read
open scoped BigOperators

variable (m : (ℓ : Loc nD τ sig) → Buf (Elt Ideal) ℓ) (c : Dev nD)

theorem out0 : val_main_v58 (F := Ideal) (argA m c) (argW m c) (argX m c) (argT m c) (argM m c) (argF m c)
    = fun j => dtoken m c (fst j) (snd j) :=
  funext fun j => (congrArg _ (eq_ix2 j)).trans (Ref.v58 ..)

theorem out1 : val_main_v65 (F := Ideal) (argA m c) (argW m c) (argX m c) (argT m c) (argM m c) (argF m c)
    = fun j => dtoken m c (fst j) (snd j) * gate m c (snd j) :=
  funext fun j => (congrArg _ (eq_ix2 j)).trans (Ref.v65 ..)

theorem out2 : val_main_v64 (F := Ideal) (argA m c) (argW m c) (argX m c) (argT m c) (argM m c) (argF m c)
    = fun j => ∑ k, dtoken m c (fst j) k * gate m c k * argW m c (ix2 (snd j) k) :=
  funext fun j => (congrArg _ (eq_ix2 j)).trans (Ref.v64 ..)

theorem out3 : val_main_v66 (F := Ideal) (argA m c) (argW m c) (argX m c) (argT m c) (argM m c) (argF m c)
    = fun _ => cHalf * ∑ i, loss m c i :=
  funext fun j => Ref.v66 ..

theorem out4 : val_main_v67 (F := Ideal) (argA m c) (argW m c) (argX m c) (argT m c) (argM m c) (argF m c)
    = fun j => (∑ i, share m c i (snd j)) * cPart :=
  funext fun j => (congrArg _ (row0 j)).trans (Ref.v67 ..)

theorem out5 : val_main_v63 (F := Ideal) (argA m c) (argW m c) (argX m c) (argT m c) (argM m c) (argF m c)
    = fun j => ∑ i, dtoken m c i (snd j) * out m c i (snd j) :=
  funext fun j => (congrArg _ (row0 j)).trans (Ref.v63 ..)

/-- The reference's frame: it declares no semaphore. -/
theorem frame_reference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem algebraic : Cert.algebraic_Kernel3Ideal_Reference3Ideal := by
  intro m g m' g' _ hargs
  refine ⟨_, _, _, _, _, _, (θ_run Cert.Kernel3Ideal.defs _ _).mono (fun r h c => h c) (Cert.Kernel3Ideal.Value.run_blocks m g), ?_⟩
  refine (θ_run Cert.Reference3Ideal.defs _ _).mono (fun r h c => ?_) (Cert.Reference3Ideal.Value.run (F := Ideal) m' g')
  obtain ⟨h0, h1, h2, h3, h4, h5, hk⟩ := h c
  obtain ⟨a0, a1, a2, a3, a4, a5⟩ := hargs c
  refine ⟨h0.trans ?_, h1.trans ?_, h2.trans ?_, h3.trans ?_, h4.trans ?_, h5.trans ?_, hk⟩
  · refine (val_main_v58_eq ..).trans ?_
    rw [a0, a1, a2, a3, a4, a5]
    exact (out0 m c).trans (final6 m c).symm
  · refine (val_main_v65_eq ..).trans ?_
    rw [a0, a1, a2, a3, a4, a5]
    exact (out1 m c).trans (final7 m c).symm
  · refine (val_main_v64_eq ..).trans ?_
    rw [a0, a1, a2, a3, a4, a5]
    exact (out2 m c).trans (final8 m c).symm
  · refine (val_main_v66_eq ..).trans ?_
    rw [a0, a1, a2, a3, a4, a5]
    exact (out3 m c).trans (final9 m c).symm
  · refine (val_main_v67_eq ..).trans ?_
    rw [a0, a1, a2, a3, a4, a5]
    exact (out4 m c).trans (final10 m c).symm
  · refine (val_main_v63_eq ..).trans ?_
    rw [a0, a1, a2, a3, a4, a5]
    exact (out5 m c).trans (final11 m c).symm

end Cert.Head

end
-- ==== Proof.WGradClaim.lean ====
/-
  `w_in_grad`: the gradient of the input projection's weights, tile by tile of its rows, is the reference's product
  summed over the tokens, at any inputs.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Quiescent

@[expose] public section

set_option maxRecDepth 16384

noncomputable section

namespace Cert.WGrad

open Idealize.ShloMosaic hiding ix0 ix1 ix2 ix3 ix4 ix5 eq_ix2
open Cert.Kernel4Ideal Cert.Kernel4Ideal.Gen Idealize.ShloMosaic.TcCoe ValueIdx Idealize.SL.Sem
open Idealize.ShloMosaic.Pipeline (Dat)
open scoped BigOperators

/-- The windows' block indices. -/
theorem idx : ∀ t : Fin cfg0.N, win0_0.index t = ![0, t.val] ∧ win0_1.index t = ![0, 0] ∧ win0_3.index t = ![t.val, 0] ∧ t.val < 7 :=
  (by decide +kernel : ∀ t : Fin grid0.N, _)

variable (m : (ℓ : Loc nD τ sig) → Buf (Elt Ideal) ℓ) (c : Dev nD)

/-- The reference's modulated rows over the program's arguments. -/
def rows : FVec Ideal Cert.Reference4Ideal.S2048x2048 .f32 :=
  Cert.Reference4Ideal.Read.val_main_v20 (F := Ideal) (m ((c : Thread nD τ).loc main_arg2)) (m ((c : Thread nD τ).loc main_arg3)) (m ((c : Thread nD τ).loc main_arg4))

/-- The cotangent the program is started on. -/
def cot : FVec Ideal S2048x5376 .bf16 := m ((c : Thread nD τ).loc main_arg0)

/-- The host lines before the call leave those rows. -/
theorem entry_rows (j : S2048x2048.Idx) : V m c main_v21 j = rows m c j := by
  show StableHlo.after hostOps0 _ (Proc.devRef .tc main_v21) j = _
  after_results
  rfl

/-- The reference's result over the program's arguments. -/
def target : FVec Ideal Cert.Reference4Ideal.S5376x2048 .bf16 :=
  Cert.Reference4Ideal.Read.val_main_v26 (F := Ideal) (m ((c : Thread nD τ).loc main_arg0)) (m ((c : Thread nD τ).loc main_arg2)) (m ((c : Thread nD τ).loc main_arg3)) (m ((c : Thread nD τ).loc main_arg4))

theorem target_apply (i : Fin 5376) (j : Fin 2048) :
    target m c (ix2 i j) = ∑ k : Fin 2048, cot m c (ix2 k i) * rows m c (ix2 k j) := by
  unfold target
  rw [Cert.Reference4Ideal.Read.val_main_v26_apply, Cert.Reference4Ideal.Read.val_main_v25_apply, Cert.Reference4Ideal.Read.val_main_v24_apply]
  refine (Cert.Reference4Ideal.Read.val_main_v23_apply _ _ _ _ _).trans (Finset.sum_congr rfl fun k _ => ?_)
  exact congrArg₂ (· * ·) (congrArg (cot m c) (eq_ix2 _)) (congrArg (rows m c) (eq_ix2 _))

/-- One tile of the product. -/
theorem pay_apply (a : FVec Ideal S2048x768 .bf16) (b : FVec Ideal S2048x2048 .bf16) (i : Fin 768) (j : Fin 2048) :
    k0_pay1 (F := Ideal) a b (ix2 i j) = ∑ k : Fin 2048, a (ix2 k i) * b (ix2 k j) := by
  pointwise [k0_pay1]
  rfl

theorem final : (dats m 0 c).arrAt 3 cfg0.N = target m c := by
  refine (dats m 0 c).arrAt_eq_of_covers 3 _ (by decide +kernel) fun t _ y => ?_
  blk_simp
  rw [after0_3]
  frame_out
  obtain ⟨i, j, rfl⟩ : ∃ (i : Fin 768) (j : Fin 2048), y = ix2 i j := ⟨y 0, y 1, eq_ix2 y⟩
  have ht := (idx t).2.2.2
  refine (pay_apply _ _ i j).trans (Eq.trans (Finset.sum_congr rfl fun k _ => ?_)
    ((target_apply m c ⟨t.val * 768 + i.val, by omega⟩ j).symm.trans (congrArg (target m c) ?_)))
  · refine congrArg₂ (· * ·) ?_ ?_
    · show V m c main_arg0 _ = _
      rw [V_main_arg0]
      unfold cot
      blk_ext [idx t]
    · refine (entry_rows m c _).trans (congrArg (rows m c) ?_)
      blk_ext [idx t]
  · blk_ext [idx t]

/-- The reference's frame: it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m g m' g' _ hargs
  refine ⟨_, (θ_run Cert.Kernel4Ideal.defs _ _).mono (fun r h c => h c) (Cert.Kernel4Ideal.Value.run_blocks m g), ?_⟩
  refine (θ_run Cert.Reference4Ideal.defs _ _).mono (fun r h c => ?_) (Cert.Reference4Ideal.Value.run (F := Ideal) m' g')
  obtain ⟨h0, hk⟩ := h c
  obtain ⟨a0, a1, a2, a3, a4, -⟩ := hargs c
  refine ⟨h0.trans ?_, hk⟩
  refine (Cert.Reference4Ideal.Read.val_main_v26_eq _ _ _ _).trans ?_
  rw [a0, a2, a3, a4]
  exact (final m c).symm

end Cert.WGrad

end
-- ==== Proof.AdaTable.lean ====
/-
  `adam_w_ada`: the one word of the table that it is given names the first device, so that the window whose place is read
  off the table lies inside its array. Once for the program over words and once for the program over the reals.
-/
module

public import proofs.«01_k».proof.Proof.Gen.Kernel5.Frame.Runs
public import proofs.«01_k».proof.Proof.Gen.Kernel5Ideal.Frame.Runs
public import Idealize.ShloMosaic.PureOps.BitExact
public import Idealize.ShloMosaic.PureOps.Ideal.Laws

@[expose] public section

set_option maxRecDepth 16384

noncomputable section

namespace Cert.Ada

open Idealize.ShloMosaic Idealize.ShloMosaic.TcCoe

section
open Cert.Kernel5 Cert.Kernel5.Gen
variable {F : FTy → Type} [FloatOps F]

/-- The table that holds nothing but zero. -/
def zeroTable : pre0.Contents (Elt F) := fun | ⟨0, _⟩ => fun _ => 0#32 | ⟨_ + 1, h⟩ => absurd h (by simp)

theorem tbl_eq (m : (ℓ : Loc nD τ sig) → Buf (Elt F) ℓ) : tbl m = zeroTable := by
  funext j x
  match j with
  | ⟨0, _⟩ =>
    show StableHlo.after hostOps0 _ (Proc.devRef .tc main_v0) x = 0#32
    after_results
    rfl

/-- The window read off the table lies inside its array. -/
theorem ok (m : (ℓ : Loc nD τ sig) → Buf (Elt Bits) ℓ) : Ok m := by
  unfold Ok; rw [tbl_eq]; decide

end

section
open Cert.Kernel5Ideal Cert.Kernel5Ideal.Gen
variable {F : FTy → Type} [FloatOps F]

/-- The table that holds nothing but zero, of the program over the reals. -/
def zeroTableI : pre0.Contents (Elt F) := fun | ⟨0, _⟩ => fun _ => 0#32 | ⟨_ + 1, h⟩ => absurd h (by simp)

theorem tbl_eqI (m : (ℓ : Loc nD τ sig) → Buf (Elt F) ℓ) : tbl m = zeroTableI := by
  funext j x
  match j with
  | ⟨0, _⟩ =>
    show StableHlo.after hostOps0 _ (Proc.devRef .tc main_v0) x = 0#32
    after_results
    rfl

/-- The window read off the table lies inside its array, of the program over the reals. -/
theorem okI (m : (ℓ : Loc nD τ sig) → Buf (Elt Ideal) ℓ) : Ok m := by
  unfold Ok; rw [tbl_eqI]; decide

/-- The pipeline's contents at that table. -/
def adm0 : (pcfg0 (F := Ideal)).Adm := ⟨zeroTableI, by decide⟩

theorem adm_eq (m : (ℓ : Loc nD τ sig) → Buf (Elt Ideal) ℓ) (h : Ok m) : adm m h = adm0 := Subtype.ext (tbl_eqI m)

end

end Cert.Ada

end
-- ==== Proof.AdaStep.lean ====
/-
  The AdamW step of one entry of a weight, as the kernel and the reference both take it.
-/
module

public import proofs.«01_k».proof.Proof.Gen.Kernel5Ideal.Skeleton
public import proofs.«01_k».proof.Proof.Gen.Reference5Ideal.Read
public import Idealize.ShloMosaic.Lib.Pipeline.ValueKit

@[expose] public section

set_option maxRecDepth 16384

noncomputable section

namespace Cert.Ada

open Idealize.ShloMosaic hiding ix0 ix1 ix2 ix3 ix4 ix5 eq_ix2
open Cert.Kernel5Ideal Cert.Kernel5Ideal.Gen Cert.Reference5Ideal.Read ValueIdx
open scoped BigOperators

/-- A literal over the reals. -/
def lit (b : BitVec 32) : EReal := Ideal.ofBits .f32 b

/-- The first moment, from the old one and the gradient. -/
def moment (m g : EReal) : EReal := lit 0x3F666666#32 * m + lit 0x3DCCCCCD#32 * g

/-- The second moment, from the old one and the gradient. -/
def square (v g : EReal) : EReal := lit 0x3F7FBE77#32 * v + lit 0x3A83126F#32 * (g * g)

/-- The change of the weight: the corrected first moment over the root of the corrected second moment, and the decay. -/
def change (w m v g : EReal) : EReal :=
  lit 0xBA83126F#32 * (Ideal.div (Ideal.div (moment m g) (lit 0x3F26BD02#32))
    (Ideal.sqrt (Ideal.div (square v g) (lit 0x3C231ACC#32)) + lit 0x322BCC77#32) + lit 0x3C23D70A#32 * w)

/-! ### The kernel's tile -/

variable (a : FVec Ideal S512x8 .f32) (d : FVec Ideal S8x768 .f32) (w m v : FVec Ideal S512x768 .f32)

/-- The gradient is the product, summed over the devices. -/
theorem grad_tile (i : Fin 512) (j : Fin 768) :
    k0_pay1 (F := Ideal) a d (ix2 i j) = ∑ k : Fin 8, a (ix2 i k) * d (ix2 k j) := by
  pointwise [k0_pay1]
  rfl

theorem moment_tile (y : S512x768.Idx) : k0_pay2 (F := Ideal) a d m y = moment (m y) (k0_pay1 (F := Ideal) a d y) := rfl

theorem square_tile (y : S512x768.Idx) : k0_pay3 (F := Ideal) a d v y = square (v y) (k0_pay1 (F := Ideal) a d y) := rfl

theorem change_tile (y : S512x768.Idx) :
    k0_pay4 (F := Ideal) a d w m v y = change (w y) (m y) (v y) (k0_pay1 (F := Ideal) a d y) := rfl

/-! ### The reference's entry -/

variable (c : FVec Ideal S8x2048 .f32) (g : FVec Ideal S8x6144 .f32) (W M V : FVec Ideal S2048x768 .f32)

theorem grad_ref (i : Fin 2048) (j : Fin 768) :
    val_main_v3 (F := Ideal) c g (ix2 i j) = ∑ k : Fin 8, c (ix2 k i) * g (ix2 k (⟨j.val, by omega⟩ : Fin 6144)) := by
  rw [val_main_v3_apply, val_main_v2_apply]
  refine Finset.sum_congr rfl fun k _ => ?_
  rw [val_main_v0_apply, mul_comm]
  exact congrArg₂ (· * ·) (congrArg c (eq_ix2 _)) (congrArg g (eq_ix2 _))

theorem moment_ref (y : S2048x768.Idx) :
    val_main_v8 (F := Ideal) c g M y = moment (M y) (val_main_v3 (F := Ideal) c g y) := rfl

theorem square_ref (y : S2048x768.Idx) :
    val_main_v14 (F := Ideal) c g V y = square (V y) (val_main_v3 (F := Ideal) c g y) := rfl

theorem change_ref (y : S2048x768.Idx) :
    val_main_v27 (F := Ideal) c g W M V y = change (W y) (M y) (V y) (val_main_v3 (F := Ideal) c g y) := rfl

end Cert.Ada

end
-- ==== Proof.AdaKernel.lean ====
/-
  The four arrays `adam_w_ada` leaves are the reference's: the gradient of the modulation's weights, and their AdamW step.
-/
module

public import proofs.«01_k».proof.Proof.AdaTable
public import proofs.«01_k».proof.Proof.AdaStep
public import proofs.«01_k».proof.Proof.Gen.Kernel5Ideal.Frame
public import Idealize.ShloMosaic.Lib.Pipeline.ValueKit

@[expose] public section

set_option maxRecDepth 16384

noncomputable section

namespace Cert.Ada

open Idealize.ShloMosaic hiding ix0 ix1 ix2 ix3 ix4 ix5 eq_ix2
open Cert.Kernel5Ideal Cert.Kernel5Ideal.Gen Cert.Reference5Ideal.Read Idealize.ShloMosaic.TcCoe ValueIdx
open Idealize.ShloMosaic.Pipeline (Dat)
open scoped BigOperators

/-- The windows' block indices at the table of zero. -/
theorem idx0 : ∀ t : Fin grid0.N, ((cfg0 adm0).win 0).index t = ![t.val, 0] ∧ ((cfg0 adm0).win 1).index t = ![0, 0]
    ∧ ((cfg0 adm0).win 2).index t = ![t.val, 0] ∧ ((cfg0 adm0).win 3).index t = ![t.val, 0] ∧ ((cfg0 adm0).win 4).index t = ![t.val, 0]
    ∧ ((cfg0 adm0).win 5).index t = ![t.val, 0] ∧ ((cfg0 adm0).win 6).index t = ![t.val, 0] ∧ ((cfg0 adm0).win 7).index t = ![t.val, 0]
    ∧ ((cfg0 adm0).win 8).index t = ![t.val, 0] ∧ t.val < 4 := by decide +kernel

theorem covers0 : ((cfg0 adm0).win 5).Covers ∧ ((cfg0 adm0).win 6).Covers ∧ ((cfg0 adm0).win 7).Covers ∧ ((cfg0 adm0).win 8).Covers := by
  refine ⟨?_, ?_, ?_, ?_⟩ <;> decide +kernel

variable (m : (ℓ : Loc nD τ sig) → Buf (Elt Ideal) ℓ) (c : Dev nD)

/-- The pipeline as the launch memory's table sets it. -/
abbrev cfg : Pipeline.Cfg sig Λ₀ := cfgM m (okI m)

theorem idx : ∀ t : Fin grid0.N, ((cfg m).win 0).index t = ![t.val, 0] ∧ ((cfg m).win 1).index t = ![0, 0]
    ∧ ((cfg m).win 2).index t = ![t.val, 0] ∧ ((cfg m).win 3).index t = ![t.val, 0] ∧ ((cfg m).win 4).index t = ![t.val, 0]
    ∧ ((cfg m).win 5).index t = ![t.val, 0] ∧ ((cfg m).win 6).index t = ![t.val, 0] ∧ ((cfg m).win 7).index t = ![t.val, 0]
    ∧ ((cfg m).win 8).index t = ![t.val, 0] ∧ t.val < 4 := by
  unfold cfg cfgM; rw [adm_eq]; exact idx0

theorem covers : ((cfg m).win 5).Covers ∧ ((cfg m).win 6).Covers ∧ ((cfg m).win 7).Covers ∧ ((cfg m).win 8).Covers := by
  unfold cfg cfgM; rw [adm_eq]; exact covers0

/-- The gathered activations. -/
def argC : FVec Ideal S8x2048 .f32 := m ((c : Thread nD τ).loc main_arg0)
/-- The gathered gradients of the modulations. -/
def argG : FVec Ideal S8x6144 .f32 := m ((c : Thread nD τ).loc main_arg1)
/-- The weights. -/
def argW : FVec Ideal S2048x768 .f32 := m ((c : Thread nD τ).loc main_arg2)
/-- The first moments. -/
def argM : FVec Ideal S2048x768 .f32 := m ((c : Thread nD τ).loc main_arg3)
/-- The second moments. -/
def argV : FVec Ideal S2048x768 .f32 := m ((c : Thread nD τ).loc main_arg4)

/-- Row `i` of point `t`'s tile. -/
def rowAt (t : Fin grid0.N) (i : Fin 512) : Fin 2048 := ⟨t.val * 512 + i.val, by have := (idx0 t).2.2.2.2.2.2.2.2.2; omega⟩

/-- Where an element of a block lies in the array, on one axis. -/
theorem place {G : Pipeline.Grid} (w : Pipeline.Window sig G) (t : Fin G.N) (y : (w.xblock (G.coords t)).Idx) (a : Fin w.shape.rank)
    (n b : Nat) (h : w.index t a = n) (hs : w.size a = b) (hk : w.kind = .blocked) : ((w.rect t).emb y a : Nat) = n * b + y a := by
  rw [w.rect_emb_val t y a hk, h, hs]

theorem blk0 (t : Fin grid0.N) (i : Fin 512) (k : Fin 8) : iblk m (okI m) c 0 t (ix2 i k) = argC m c (ix2 k (rowAt t i)) := by
  have e : V m c main_v1 = transpose S2048x8 [1, 0] (argC m c) transposes_S8x2048_S2048x8_1_0 := by
    show StableHlo.after hostOps0 _ (Proc.devRef .tc main_v1) = _
    after_results
    rfl
  have p0 := place ((cfg m).win 0) t (ix2 i k) (0 : Fin 2) t.val 512 (congrFun (idx m t).1 (0 : Fin 2)) rfl rfl
  have p1 := place ((cfg m).win 0) t (ix2 i k) (1 : Fin 2) 0 8 (congrFun (idx m t).1 (1 : Fin 2)) rfl rfl
  show V m c main_v1 _ = _
  rw [e]
  refine transpose_apply [1, 0] (argC m c) _ _ (ix2 k (rowAt t i)) fun b => ?_
  match b with
  | ⟨0, _⟩ => exact p0.symm
  | ⟨1, _⟩ => exact (p1.trans (by show 0 * 8 + k.val = k.val; omega)).symm

theorem blk1 (t : Fin grid0.N) (k : Fin 8) (j : Fin 768) :
    iblk m (okI m) c 1 t (ix2 k j) = argG m c (ix2 k (⟨j.val, by omega⟩ : Fin 6144)) := by
  have p0 := place ((cfg m).win 1) t (ix2 k j) (0 : Fin 2) 0 8 (congrFun (idx m t).2.1 (0 : Fin 2)) rfl rfl
  have p1 := place ((cfg m).win 1) t (ix2 k j) (1 : Fin 2) 0 768 (congrFun (idx m t).2.1 (1 : Fin 2)) rfl rfl
  show V m c main_arg1 _ = _
  rw [V_main_arg1]
  refine congrArg (argG m c) (Shape.idx_ext₂ ?_ ?_)
  · exact p0.trans (by show 0 * 8 + k.val = k.val; omega)
  · exact p1.trans (by show 0 * 768 + j.val = j.val; omega)

theorem blk2 (t : Fin grid0.N) (i : Fin 512) (j : Fin 768) : iblk m (okI m) c 2 t (ix2 i j) = argW m c (ix2 (rowAt t i) j) := by
  have p0 := place ((cfg m).win 2) t (ix2 i j) (0 : Fin 2) t.val 512 (congrFun (idx m t).2.2.1 (0 : Fin 2)) rfl rfl
  have p1 := place ((cfg m).win 2) t (ix2 i j) (1 : Fin 2) 0 768 (congrFun (idx m t).2.2.1 (1 : Fin 2)) rfl rfl
  show V m c main_arg2 _ = _
  rw [V_main_arg2]
  refine congrArg (argW m c) (Shape.idx_ext₂ ?_ ?_)
  · exact p0
  · exact p1.trans (by show 0 * 768 + j.val = j.val; omega)

theorem blk3 (t : Fin grid0.N) (i : Fin 512) (j : Fin 768) : iblk m (okI m) c 3 t (ix2 i j) = argM m c (ix2 (rowAt t i) j) := by
  have p0 := place ((cfg m).win 3) t (ix2 i j) (0 : Fin 2) t.val 512 (congrFun (idx m t).2.2.2.1 (0 : Fin 2)) rfl rfl
  have p1 := place ((cfg m).win 3) t (ix2 i j) (1 : Fin 2) 0 768 (congrFun (idx m t).2.2.2.1 (1 : Fin 2)) rfl rfl
  show V m c main_arg3 _ = _
  rw [V_main_arg3]
  refine congrArg (argM m c) (Shape.idx_ext₂ ?_ ?_)
  · exact p0
  · exact p1.trans (by show 0 * 768 + j.val = j.val; omega)

theorem blk4 (t : Fin grid0.N) (i : Fin 512) (j : Fin 768) : iblk m (okI m) c 4 t (ix2 i j) = argV m c (ix2 (rowAt t i) j) := by
  have p0 := place ((cfg m).win 4) t (ix2 i j) (0 : Fin 2) t.val 512 (congrFun (idx m t).2.2.2.2.1 (0 : Fin 2)) rfl rfl
  have p1 := place ((cfg m).win 4) t (ix2 i j) (1 : Fin 2) 0 768 (congrFun (idx m t).2.2.2.2.1 (1 : Fin 2)) rfl rfl
  show V m c main_arg4 _ = _
  rw [V_main_arg4]
  refine congrArg (argV m c) (Shape.idx_ext₂ ?_ ?_)
  · exact p0
  · exact p1.trans (by show 0 * 768 + j.val = j.val; omega)

/-- The reference's gradient over the program's arguments. -/
def gradAll : FVec Ideal S2048x768 .f32 := val_main_v3 (F := Ideal) (argC m c) (argG m c)
/-- Its first moments. -/
def momentAll : FVec Ideal S2048x768 .f32 := val_main_v8 (F := Ideal) (argC m c) (argG m c) (argM m c)
/-- Its second moments. -/
def squareAll : FVec Ideal S2048x768 .f32 := val_main_v14 (F := Ideal) (argC m c) (argG m c) (argV m c)
/-- Its changes of the weights. -/
def changeAll : FVec Ideal S2048x768 .f32 := val_main_v27 (F := Ideal) (argC m c) (argG m c) (argW m c) (argM m c) (argV m c)

/-! ### A tile -/

theorem grad_at (t : Fin grid0.N) (i : Fin 512) (j : Fin 768) :
    k0_pay1 (F := Ideal) (iblk m (okI m) c 0 t) (iblk m (okI m) c 1 t) (ix2 i j) = gradAll m c (ix2 (rowAt t i) j) :=
  (grad_tile _ _ i j).trans ((Finset.sum_congr rfl fun k _ => congrArg₂ (fun x y : EReal => x * y) (blk0 m c t i k) (blk1 m c t k j)).trans
    (grad_ref (argC m c) (argG m c) (rowAt t i) j).symm)

theorem moment_at (t : Fin grid0.N) (i : Fin 512) (j : Fin 768) :
    k0_pay2 (F := Ideal) (iblk m (okI m) c 0 t) (iblk m (okI m) c 1 t) (iblk m (okI m) c 3 t) (ix2 i j) = momentAll m c (ix2 (rowAt t i) j) :=
  (moment_tile _ _ _ _).trans ((congrArg₂ moment (blk3 m c t i j) (grad_at m c t i j)).trans (moment_ref ..).symm)

theorem square_at (t : Fin grid0.N) (i : Fin 512) (j : Fin 768) :
    k0_pay3 (F := Ideal) (iblk m (okI m) c 0 t) (iblk m (okI m) c 1 t) (iblk m (okI m) c 4 t) (ix2 i j) = squareAll m c (ix2 (rowAt t i) j) :=
  (square_tile _ _ _ _).trans ((congrArg₂ square (blk4 m c t i j) (grad_at m c t i j)).trans (square_ref ..).symm)

theorem change_at (t : Fin grid0.N) (i : Fin 512) (j : Fin 768) :
    k0_pay4 (F := Ideal) (iblk m (okI m) c 0 t) (iblk m (okI m) c 1 t) (iblk m (okI m) c 2 t) (iblk m (okI m) c 3 t) (iblk m (okI m) c 4 t) (ix2 i j)
      = changeAll m c (ix2 (rowAt t i) j) := by
  refine (change_tile _ _ _ _ _ _).trans (Eq.trans ?_ (change_ref ..).symm)
  rw [blk2, blk3, blk4, grad_at]
  rfl

end Cert.Ada

end
-- ==== Proof.AdaFinal.lean ====
/-
  `adam_w_ada`: its four results, tile after tile, are the reference's arrays.
-/
module

public import proofs.«01_k».proof.Proof.AdaKernel

@[expose] public section

set_option maxRecDepth 16384

noncomputable section

namespace Cert.Ada

open Idealize.ShloMosaic hiding ix0 ix1 ix2 ix3 ix4 ix5 eq_ix2
open Cert.Kernel5Ideal Cert.Kernel5Ideal.Gen Idealize.ShloMosaic.TcCoe ValueIdx
open Idealize.ShloMosaic.Pipeline (Dat)

section Point

variable {F : FTy → Type} [FloatOps F] (m : (ℓ : Loc nD τ sig) → Buf (Elt F) ℓ) (hO : Ok m) (c : Dev nD) (t : Fin (cfgM m hO).N)

/-! ### What a point writes, of the blocks it reads -/

theorem back0 : View.read (Elt F) (ms0_0 m hO t).view ((hs0_0 m hO t).unread (iblk m hO c 0 t)) = iblk m hO c 0 t :=
  (hs0_0 m hO t).read_unread _

theorem back1 : View.read (Elt F) (ms0_1 m hO t).view ((hs0_1 m hO t).unread (iblk m hO c 1 t)) = iblk m hO c 1 t :=
  (hs0_1 m hO t).read_unread _

theorem back2 : View.read (Elt F) (ms0_2 m hO t).view ((hs0_2 m hO t).unread (iblk m hO c 2 t)) = iblk m hO c 2 t :=
  (hs0_2 m hO t).read_unread _

theorem back3 : View.read (Elt F) (ms0_3 m hO t).view ((hs0_3 m hO t).unread (iblk m hO c 3 t)) = iblk m hO c 3 t :=
  (hs0_3 m hO t).read_unread _

theorem back4 : View.read (Elt F) (ms0_4 m hO t).view ((hs0_4 m hO t).unread (iblk m hO c 4 t)) = iblk m hO c 4 t :=
  (hs0_4 m hO t).read_unread _

theorem tile5 : (outsAt0 m hO c t).1 = k0_pay1 (F := F) (iblk m hO c 0 t) (iblk m hO c 1 t) := by
  unfold outsAt0
  frame_out
  exact congr (congrArg (k0_pay1 (F := F)) (back0 m hO c t)) (back1 m hO c t)

theorem tile6 : (outsAt0 m hO c t).2.1 = k0_pay4 (F := F) (iblk m hO c 0 t) (iblk m hO c 1 t) (iblk m hO c 2 t) (iblk m hO c 3 t) (iblk m hO c 4 t) := by
  unfold outsAt0
  frame_out
  exact congr (congr (congr (congr (congrArg (k0_pay4 (F := F)) (back0 m hO c t)) (back1 m hO c t)) (back2 m hO c t)) (back3 m hO c t)) (back4 m hO c t)

theorem tile7 : (outsAt0 m hO c t).2.2.1 = k0_pay2 (F := F) (iblk m hO c 0 t) (iblk m hO c 1 t) (iblk m hO c 3 t) := by
  unfold outsAt0
  frame_out
  exact congr (congr (congrArg (k0_pay2 (F := F)) (back0 m hO c t)) (back1 m hO c t)) (back3 m hO c t)

theorem tile8 : (outsAt0 m hO c t).2.2.2 = k0_pay3 (F := F) (iblk m hO c 0 t) (iblk m hO c 1 t) (iblk m hO c 4 t) := by
  unfold outsAt0
  frame_out
  exact congr (congr (congrArg (k0_pay3 (F := F)) (back0 m hO c t)) (back1 m hO c t)) (back4 m hO c t)

end Point

variable (m : (ℓ : Loc nD τ sig) → Buf (Elt Ideal) ℓ) (c : Dev nD)

/-! ### The gradient -/

theorem emb5 (t : Fin grid0.N) (i : Fin 512) (j : Fin 768) :
    ((((cfg m).win 5).blk t).view.emb (ix2 i j) : S2048x768.Idx) = ix2 (rowAt t i) j := by
  have p0 := place ((cfg m).win 5) t (ix2 i j) (0 : Fin 2) t.val 512 (congrFun (idx m t).2.2.2.2.2.1 (0 : Fin 2)) rfl rfl
  have p1 := place ((cfg m).win 5) t (ix2 i j) (1 : Fin 2) 0 768 (congrFun (idx m t).2.2.2.2.2.1 (1 : Fin 2)) rfl rfl
  exact Shape.idx_ext₂ p0 (p1.trans (by show 0 * 768 + j.val = j.val; omega))

theorem out5 (t : Fin grid0.N) (i : Fin 512) (j : Fin 768) :
    (outsAt0 m (okI m) c t).1 (ix2 i j) = gradAll m c (ix2 (rowAt t i) j) :=
  (congrFun (tile5 m (okI m) c t) (ix2 i j)).trans (grad_at m c t i j)

set_option maxHeartbeats 4000000 in
theorem final5 : (dats m (okI m) 0 c).arrAt 5 (cfg m).N = gradAll m c := by
  refine (dats m (okI m) 0 c).arrAt_eq_of_covers 5 _ (covers m).1 fun t _ y => ?_
  obtain ⟨i, j, rfl⟩ : ∃ (i : Fin 512) (j : Fin 768), y = ix2 i j := ⟨y (0 : Fin 2), y (1 : Fin 2), eq_ix2 y⟩
  exact (congrFun (after0_5 m (okI m) c t) (ix2 i j)).trans ((out5 m c t i j).trans (congrArg (gradAll m c) (emb5 m t i j).symm))

/-! ### The changes -/

theorem emb6 (t : Fin grid0.N) (i : Fin 512) (j : Fin 768) :
    ((((cfg m).win 6).blk t).view.emb (ix2 i j) : S2048x768.Idx) = ix2 (rowAt t i) j := by
  have p0 := place ((cfg m).win 6) t (ix2 i j) (0 : Fin 2) t.val 512 (congrFun (idx m t).2.2.2.2.2.2.1 (0 : Fin 2)) rfl rfl
  have p1 := place ((cfg m).win 6) t (ix2 i j) (1 : Fin 2) 0 768 (congrFun (idx m t).2.2.2.2.2.2.1 (1 : Fin 2)) rfl rfl
  exact Shape.idx_ext₂ p0 (p1.trans (by show 0 * 768 + j.val = j.val; omega))

theorem out6 (t : Fin grid0.N) (i : Fin 512) (j : Fin 768) :
    (outsAt0 m (okI m) c t).2.1 (ix2 i j) = changeAll m c (ix2 (rowAt t i) j) :=
  (congrFun (tile6 m (okI m) c t) (ix2 i j)).trans (change_at m c t i j)

set_option maxHeartbeats 4000000 in
theorem final6 : (dats m (okI m) 0 c).arrAt 6 (cfg m).N = changeAll m c := by
  refine (dats m (okI m) 0 c).arrAt_eq_of_covers 6 _ (covers m).2.1 fun t _ y => ?_
  obtain ⟨i, j, rfl⟩ : ∃ (i : Fin 512) (j : Fin 768), y = ix2 i j := ⟨y (0 : Fin 2), y (1 : Fin 2), eq_ix2 y⟩
  exact (congrFun (after0_6 m (okI m) c t) (ix2 i j)).trans ((out6 m c t i j).trans (congrArg (changeAll m c) (emb6 m t i j).symm))

/-! ### The first moments -/

theorem emb7 (t : Fin grid0.N) (i : Fin 512) (j : Fin 768) :
    ((((cfg m).win 7).blk t).view.emb (ix2 i j) : S2048x768.Idx) = ix2 (rowAt t i) j := by
  have p0 := place ((cfg m).win 7) t (ix2 i j) (0 : Fin 2) t.val 512 (congrFun (idx m t).2.2.2.2.2.2.2.1 (0 : Fin 2)) rfl rfl
  have p1 := place ((cfg m).win 7) t (ix2 i j) (1 : Fin 2) 0 768 (congrFun (idx m t).2.2.2.2.2.2.2.1 (1 : Fin 2)) rfl rfl
  exact Shape.idx_ext₂ p0 (p1.trans (by show 0 * 768 + j.val = j.val; omega))

theorem out7 (t : Fin grid0.N) (i : Fin 512) (j : Fin 768) :
    (outsAt0 m (okI m) c t).2.2.1 (ix2 i j) = momentAll m c (ix2 (rowAt t i) j) :=
  (congrFun (tile7 m (okI m) c t) (ix2 i j)).trans (moment_at m c t i j)

set_option maxHeartbeats 4000000 in
theorem final7 : (dats m (okI m) 0 c).arrAt 7 (cfg m).N = momentAll m c := by
  refine (dats m (okI m) 0 c).arrAt_eq_of_covers 7 _ (covers m).2.2.1 fun t _ y => ?_
  obtain ⟨i, j, rfl⟩ : ∃ (i : Fin 512) (j : Fin 768), y = ix2 i j := ⟨y (0 : Fin 2), y (1 : Fin 2), eq_ix2 y⟩
  exact (congrFun (after0_7 m (okI m) c t) (ix2 i j)).trans ((out7 m c t i j).trans (congrArg (momentAll m c) (emb7 m t i j).symm))

/-! ### The second moments -/

theorem emb8 (t : Fin grid0.N) (i : Fin 512) (j : Fin 768) :
    ((((cfg m).win 8).blk t).view.emb (ix2 i j) : S2048x768.Idx) = ix2 (rowAt t i) j := by
  have p0 := place ((cfg m).win 8) t (ix2 i j) (0 : Fin 2) t.val 512 (congrFun (idx m t).2.2.2.2.2.2.2.2.1 (0 : Fin 2)) rfl rfl
  have p1 := place ((cfg m).win 8) t (ix2 i j) (1 : Fin 2) 0 768 (congrFun (idx m t).2.2.2.2.2.2.2.2.1 (1 : Fin 2)) rfl rfl
  exact Shape.idx_ext₂ p0 (p1.trans (by show 0 * 768 + j.val = j.val; omega))

theorem out8 (t : Fin grid0.N) (i : Fin 512) (j : Fin 768) :
    (outsAt0 m (okI m) c t).2.2.2 (ix2 i j) = squareAll m c (ix2 (rowAt t i) j) :=
  (congrFun (tile8 m (okI m) c t) (ix2 i j)).trans (square_at m c t i j)

set_option maxHeartbeats 4000000 in
theorem final8 : (dats m (okI m) 0 c).arrAt 8 (cfg m).N = squareAll m c := by
  refine (dats m (okI m) 0 c).arrAt_eq_of_covers 8 _ (covers m).2.2.2 fun t _ y => ?_
  obtain ⟨i, j, rfl⟩ : ∃ (i : Fin 512) (j : Fin 768), y = ix2 i j := ⟨y (0 : Fin 2), y (1 : Fin 2), eq_ix2 y⟩
  exact (congrFun (after0_8 m (okI m) c t) (ix2 i j)).trans ((out8 m c t i j).trans (congrArg (squareAll m c) (emb8 m t i j).symm))

end Cert.Ada

end
-- ==== Proof.AdaClaim.lean ====
/-
  `adam_w_ada`: the gradient of the modulation's weights, its two moments and the changes are the reference's, at any
  inputs.
-/
module

public import proofs.«01_k».proof.Defs
public import proofs.«01_k».proof.Proof.AdaFinal
public import proofs.«01_k».proof.Proof.Gen.Reference5Ideal.Run
public import proofs.«01_k».proof.Proof.Gen.Reference5Ideal.Read
public import Idealize.ShloMosaic.Lib.Quiescent

@[expose] public section

set_option maxRecDepth 16384

noncomputable section

namespace Cert.Ada

open Idealize.ShloMosaic hiding ix0 ix1 ix2 ix3 ix4 ix5 eq_ix2
open Cert.Kernel5Ideal Cert.Kernel5Ideal.Gen Idealize.ShloMosaic.TcCoe ValueIdx Idealize.SL.Sem

section Ends

variable (m : (ℓ : Loc nD τ sig) → Buf (Elt Ideal) ℓ)

/-- The states the call ends in, at the table it is started on. -/
abbrev Ends (r : PUnit × MemSt nD τ sig (Elt Ideal)) : Prop :=
  Pipeline.FramePost (Pipeline.pin pcfgs fun _ => adm m (okI m)) (dats m (okI m)) 0 (V m) r

variable (r : PUnit × MemSt nD τ sig (Elt Ideal)) (h : Ends m r) (c : Dev nD)
include h

theorem grad_end : r.2.mem ((c : Thread nD τ).loc main_v2_0) = gradAll m c :=
  Eq.trans (b := (dats m (okI m) 0 c).arrAt 5 (cfg m).N) ((h c).1 5) (final5 m c)

theorem change_end : r.2.mem ((c : Thread nD τ).loc main_v2_1) = changeAll m c :=
  Eq.trans (b := (dats m (okI m) 0 c).arrAt 6 (cfg m).N) ((h c).1 6) (final6 m c)

theorem moment_end : r.2.mem ((c : Thread nD τ).loc main_v2_2) = momentAll m c :=
  Eq.trans (b := (dats m (okI m) 0 c).arrAt 7 (cfg m).N) ((h c).1 7) (final7 m c)

theorem square_end : r.2.mem ((c : Thread nD τ).loc main_v2_3) = squareAll m c :=
  Eq.trans (b := (dats m (okI m) 0 c).arrAt 8 (cfg m).N) ((h c).1 8) (final8 m c)

end Ends

/-- The reference's frame: it declares no semaphore. -/
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem algebraic : Cert.algebraic_Kernel5Ideal_Reference5Ideal := by
  intro m g m' g' _ hargs
  refine ⟨fun c => gradAll m c, fun c => changeAll m c, fun c => momentAll m c, fun c => squareAll m c,
    (θ_run Cert.Kernel5Ideal.defs _ _).mono
      (fun r h c => ⟨grad_end m r h.1 c, change_end m r h.1 c, moment_end m r h.1 c, square_end m r h.1 c, h.2 c⟩)
      (θ_run_and (run_main m g (okI m)) (unchanged m g (okI m))), ?_⟩
  refine (θ_run Cert.Reference5Ideal.defs _ _).mono (fun r h c => ?_) (Cert.Reference5Ideal.Value.run (F := Ideal) m' g')
  obtain ⟨h0, h1, h2, h3, hk⟩ := h c
  obtain ⟨a0, a1, a2, a3, a4⟩ := hargs c
  refine ⟨h0.trans ?_, h1.trans ?_, h2.trans ?_, h3.trans ?_, hk⟩
  · refine (Cert.Reference5Ideal.Read.val_main_v3_eq ..).trans ?_
    rw [a0, a1]
    rfl
  · refine (Cert.Reference5Ideal.Read.val_main_v27_eq ..).trans ?_
    rw [a0, a1, a2, a3, a4]
    rfl
  · refine (Cert.Reference5Ideal.Read.val_main_v8_eq ..).trans ?_
    rw [a0, a1, a3]
    rfl
  · refine (Cert.Reference5Ideal.Read.val_main_v14_eq ..).trans ?_
    rw [a0, a1, a4]
    rfl

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.MixClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.ZBwdClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.HeadClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.WGradClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.AdaClaim
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Pre_finite2.Gen.facts,
  fun m ρ _ => Cert.Kernel.Gen.frame m ρ,
  fun m ρ _ => Cert.KernelIdeal.Gen.frame m ρ,
  Cert.Mix.frame_reference,
  fun m ρ _ => Cert.Kernel2.Gen.frame m ρ,
  fun m ρ _ => Cert.Kernel2Ideal.Gen.frame m ρ,
  fun m ρ _ => Cert.Kernel2Ideal.Gen.frame m ρ,
  Cert.ZBwd.frame_reference,
  fun m ρ _ => Cert.ZBwd.frame_reference m ρ trivial,
  fun m ρ _ => Cert.Kernel3.Gen.frame m ρ,
  fun m ρ _ => Cert.Kernel3Ideal.Gen.frame m ρ,
  Cert.Head.frame_reference,
  fun m ρ _ => Cert.Kernel4.Gen.frame m ρ,
  fun m ρ _ => Cert.Kernel4Ideal.Gen.frame m ρ,
  Cert.WGrad.frame_reference,
  fun m ρ _ => Cert.Kernel5.Gen.frame m ρ (Cert.Ada.ok m),
  fun m ρ _ => Cert.Kernel5Ideal.Gen.frame m ρ (Cert.Ada.okI m),
  Cert.Ada.frame_reference,
  trivial,
  Cert.Mix.algebraic,
  trivial,
  Cert.ZBwd.algebraic,
  trivial,
  Cert.Head.algebraic,
  trivial,
  Cert.WGrad.algebraic,
  trivial,
  Cert.Ada.algebraic⟩

end Cert.Proof

end
